-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x2048 .f32) (main_arg1 : FVec F S2048x16384 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 32768#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Pre_finite_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x2048 .f32) (main_arg1 : FVec F S2048x32768 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg2 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 32768#32
  let main_v13 : IVec S1024 32 := broadcastInDim S1024 ![] bcast_S_S1024 main_c_4
  let main_v14 : IVec S1024 1 := cmpi .slt main_arg2 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x2048 : Shape := ⟨2, ![1024, 2048]⟩
abbrev S2048x16384 : Shape := ⟨2, ![2048, 16384]⟩
abbrev S1024 : Shape := ⟨1, ![1024]⟩
abbrev S1024x1 : Shape := ⟨2, ![1024, 1]⟩
abbrev S2048x1024 : Shape := ⟨2, ![2048, 1024]⟩
abbrev S1024x512 : Shape := ⟨2, ![1024, 512]⟩
abbrev S1024x128 : Shape := ⟨2, ![1024, 128]⟩
abbrev S1024x8 : Shape := ⟨2, ![1024, 8]⟩
abbrev S2 : Shape := ⟨1, ![2]⟩
abbrev S_ : Shape := ⟨0, ![]⟩
abbrev S1 : Shape := ⟨1, ![1]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S1024x1, .i32⟩
  | .hbm, ⟨4, _⟩ => ⟨S1024x1, .f32⟩
  | .hbm, ⟨5, _⟩ => ⟨S1024, .f32⟩
  | .local _ .vmem, ⟨0, _⟩ => ⟨S1024x2048, .f32⟩
  | .local _ .vmem, ⟨1, _⟩ => ⟨S1024x1, .i32⟩
  | .local _ .vmem, ⟨2, _⟩ => ⟨S1024x1, .f32⟩
  | .local _ .vmem, ⟨3, _⟩ => ⟨S2048x1024, .f32⟩
  | .local _ .vmem, ⟨4, _⟩ => ⟨S2048x1024, .f32⟩
  | .local _ .vmem, ⟨5, _⟩ => ⟨S1024x512, .f32⟩
  | .local _ .vmem, ⟨6, _⟩ => ⟨S1024x512, .f32⟩
  | .local _ .vmem, ⟨7, _⟩ => ⟨S1024x128, .f32⟩
  | .local _ .vmem, ⟨8, _⟩ => ⟨S1024x128, .f32⟩
  | .local _ .vmem, ⟨9, _⟩ => ⟨S1024x8, .f32⟩
  | .local _ .vmem, ⟨10, _⟩ => ⟨S1024x8, .f32⟩
  | .local _ .vmem, ⟨11, _⟩ => ⟨S1024x8, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32_10 : BitVec 32 := 0#32
  let v20 : BitVec 1 := Scalar.cmpi .eq arg0 c0_i32_10
  let v21 : BitVec 32 := Scalar.extui v20
  let c0_i32_11 : BitVec 32 := 0#32
  let v22 : BitVec 1 := Scalar.cmpi .ne v21 c0_i32_11
  v22

def k0_dev1 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v36 : BitVec 32 := Scalar.muli v2 c2_i32_18
  let v37 : BitVec 32 := Scalar.addi c0_i32_19 v36
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v38 : BitVec 32 := Scalar.muli v6 c1_i32_20
  let v39 : BitVec 32 := Scalar.addi v37 v38
  v39.toNat
def k0_dev2 (d0 : Dev nD) : Nat :=
  let c0_i32_23 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_22 : BitVec 32 := 2#32
  let v40 : BitVec 32 := Scalar.muli v7 c2_i32_22
  let v41 : BitVec 32 := Scalar.addi c0_i32_23 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v42 : BitVec 32 := Scalar.muli v5 c1_i32_24
  let v43 : BitVec 32 := Scalar.addi v41 v42
  v43.toNat
def k0_off1 (d0 : Dev nD) (c0_i32_27 : BitVec 32) : Fin 2 → Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let v44 : BitVec 32 := Scalar.addi v8 c0_i32_27
  ![0, v44.toNat]
def k0_cond2 (i : grid0.Coords) : BitVec 1 :=
  let arg0 : BitVec 32 := BitVec.ofNat 32 (i 0).val
  let c8_i32 : BitVec 32 := 8#32
  let v23 : BitVec 1 := Scalar.cmpi .slt arg0 c8_i32
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c0_i32_9 : BitVec 32 := 0#32
  let v19 : BitVec 1 := Scalar.cmpi .eq v18 c0_i32_9
  let v24 : BitVec 1 := Scalar.andi v23 v19
  let v25 : BitVec 32 := Scalar.extui v24
  let c0_i32_12 : BitVec 32 := 0#32
  let v26 : BitVec 1 := Scalar.cmpi .ne v25 c0_i32_12
  v26

def k0_off2 (i : grid0.Coords) (d0 : Dev nD) : Fin 2 → Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let arg0 : BitVec 32 := BitVec.ofNat 32 (i 0).val
  let c1024_i32 : BitVec 32 := 1024#32
  let v35 : BitVec 32 := Scalar.muli arg0 c1024_i32
  let v36 : BitVec 32 := Scalar.addi v8 v35
  ![0, v36.toNat]
def k0_cond3 (i : grid0.Coords) : BitVec 1 :=
  let arg0 : BitVec 32 := BitVec.ofNat 32 (i 0).val
  let c2_i32_89 : BitVec 32 := 2#32
  let v200 : BitVec 32 := Scalar.addi arg0 c2_i32_89
  let c8_i32_90 : BitVec 32 := 8#32
  let v201 : BitVec 1 := Scalar.cmpi .slt v200 c8_i32_90
  let v202 : BitVec 32 := Scalar.extui v201
  let c0_i32_92 : BitVec 32 := 0#32
  let v203 : BitVec 1 := Scalar.cmpi .ne v202 c0_i32_92
  v203

def k0_off3 (i : grid0.Coords) (d0 : Dev nD) : Fin 2 → Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let arg0 : BitVec 32 := BitVec.ofNat 32 (i 0).val
  let c2_i32_93 : BitVec 32 := 2#32
  let v204 : BitVec 32 := Scalar.addi arg0 c2_i32_93
  let c1024_i32_94 : BitVec 32 := 1024#32
  let v205 : BitVec 32 := Scalar.muli v204 c1024_i32_94
  let v206 : BitVec 32 := Scalar.addi v8 v205
  ![0, v206.toNat]
def k0_cond4 (i : grid0.Coords) : BitVec 1 :=
  let arg0 : BitVec 32 := BitVec.ofNat 32 (i 0).val
  let c8_i32_13 : BitVec 32 := 8#32
  let v27 : BitVec 1 := Scalar.cmpi .slt arg0 c8_i32_13
  let c2_i32_4 : BitVec 32 := 2#32
  let c0_i32 : BitVec 32 := 0#32
  let v9 : BitVec 1 := Scalar.cmpi .eq c2_i32_4 c0_i32
  let c1_i32_5 : BitVec 32 := 1#32
  let v10 : BitVec 32 := Scalar.select v9 c1_i32_5 c2_i32_4
  let v11 : BitVec 32 := Scalar.remsi arg0 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c0_i32_9 : BitVec 32 := 0#32
  let v19 : BitVec 1 := Scalar.cmpi .eq v18 c0_i32_9
  let v_true : BitVec 1 := 1#1
  let v28 : BitVec 1 := Scalar.xori v19 v_true
  let v29 : BitVec 1 := Scalar.andi v27 v28
  let v30 : BitVec 32 := Scalar.extui v29
  let c0_i32_14 : BitVec 32 := 0#32
  let v31 : BitVec 1 := Scalar.cmpi .ne v30 c0_i32_14
  v31

def k0_off4 (i : grid0.Coords) (d0 : Dev nD) : Fin 2 → Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let arg0 : BitVec 32 := BitVec.ofNat 32 (i 0).val
  let c1024_i32 : BitVec 32 := 1024#32
  let v35 : BitVec 32 := Scalar.muli arg0 c1024_i32
  let v36 : BitVec 32 := Scalar.addi v8 v35
  ![0, v36.toNat]
def k0_cond5 (i : grid0.Coords) : BitVec 1 :=
  let arg0 : BitVec 32 := BitVec.ofNat 32 (i 0).val
  let c2_i32_89 : BitVec 32 := 2#32
  let v200 : BitVec 32 := Scalar.addi arg0 c2_i32_89
  let c8_i32_90 : BitVec 32 := 8#32
  let v201 : BitVec 1 := Scalar.cmpi .slt v200 c8_i32_90
  let v202 : BitVec 32 := Scalar.extui v201
  let c0_i32_92 : BitVec 32 := 0#32
  let v203 : BitVec 1 := Scalar.cmpi .ne v202 c0_i32_92
  v203

def k0_off5 (i : grid0.Coords) (d0 : Dev nD) : Fin 2 → Nat :=
  let c0_i32_95 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v8 : BitVec 32 := Scalar.muli v2 c8192_i32
  let arg0 : BitVec 32 := BitVec.ofNat 32 (i 0).val
  let c2_i32_93 : BitVec 32 := 2#32
  let v204 : BitVec 32 := Scalar.addi arg0 c2_i32_93
  let c1024_i32_94 : BitVec 32 := 1024#32
  let v205 : BitVec 32 := Scalar.muli v204 c1024_i32_94
  let v206 : BitVec 32 := Scalar.addi v8 v205
  ![0, v206.toNat]
def k0_cond6 (i : grid0.Coords) : BitVec 1 :=
  let arg0 : BitVec 32 := BitVec.ofNat 32 (i 0).val
  let c8_i32_15 : BitVec 32 := 8#32
  let v32 : BitVec 1 := Scalar.cmpi .eq arg0 c8_i32_15
  let v33 : BitVec 32 := Scalar.extui v32
  let c0_i32_16 : BitVec 32 := 0#32
  let v34 : BitVec 1 := Scalar.cmpi .ne v33 c0_i32_16
  v34

def k0_dev3 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v117 : BitVec 32 := Scalar.muli v2 c2_i32_48
  let v118 : BitVec 32 := Scalar.addi c0_i32_49 v117
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_50 : BitVec 32 := 1#32
  let v119 : BitVec 32 := Scalar.muli v6 c1_i32_50
  let v120 : BitVec 32 := Scalar.addi v118 v119
  v120.toNat
def k0_dev4 (d0 : Dev nD) : Nat :=
  let c0_i32_68 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_67 : BitVec 32 := 2#32
  let v137 : BitVec 32 := Scalar.muli v7 c2_i32_67
  let v138 : BitVec 32 := Scalar.addi c0_i32_68 v137
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v139 : BitVec 32 := Scalar.muli v5 c1_i32_69
  let v140 : BitVec 32 := Scalar.addi v138 v139
  v140.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Names.lean ====
/-
  The names the proof of `KernelIdeal` is written in: the memrefs of the kernel's buffers, the two neighbours of a
  device on the 2 × 2 mesh, the blocks of the weight matrix the body copies in, and the resource algebra.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.RegionTalk
public import Idealize.ShloMosaic.Lib.Tactic

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, the exchange's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The mesh -/

/-- The device beside `c` along the second mesh axis: `(x, 1 - y)`. -/
def ny (c : Dev nD) : Dev nD := ⟨(2 * (c.val / 2) + 1) - c.val % 2, by have := c.isLt; have : nD = 4 := rfl; omega⟩
/-- The device beside `c` along the first mesh axis: `(1 - x, y)`. -/
def nx (c : Dev nD) : Dev nD := ⟨(c.val % 2 + 2) - 2 * (c.val / 2), by have := c.isLt; have : nD = 4 := rfl; omega⟩

theorem ny_ny (c : Dev nD) : ny (ny c) = c := by revert c; decide
theorem nx_nx (c : Dev nD) : nx (nx c) = c := by revert c; decide
theorem ny_ne_nx (c : Dev nD) : ny c ≠ nx c := by revert c; decide

theorem dev1_eq (c : Dev nD) (h) : (⟨k0_dev1 c, h⟩ : Dev nD) = ny c := Fin.ext (k0_dev1_eq c)
theorem dev2_eq (c : Dev nD) (h) : (⟨k0_dev2 c, h⟩ : Dev nD) = nx c := Fin.ext (k0_dev2_eq c)
theorem dev3_eq (c : Dev nD) (h) : (⟨k0_dev3 c, h⟩ : Dev nD) = ny c := Fin.ext (k0_dev3_eq c)
theorem dev4_eq (c : Dev nD) (h) : (⟨k0_dev4 c, h⟩ : Dev nD) = nx c := Fin.ext (k0_dev4_eq c)

/-! ## The buffers and the semaphores -/

abbrev xM : Memref sig .tc .vmem S1024x2048 .f32 := Memref.whole cc0_stg0_0
abbrev labM : Memref sig .tc .vmem S1024x1 .i32 := Memref.whole cc0_stg1_0
abbrev outM : Memref sig .tc .vmem S1024x1 .f32 := Memref.whole cc0_stg2_0
abbrev wM : Memref sig .tc .hbm S2048x16384 .f32 := Memref.whole main_arg1
abbrev waM : Memref sig .tc .vmem S2048x1024 .f32 := Memref.whole cc0_scratch0
abbrev wbM : Memref sig .tc .vmem S2048x1024 .f32 := Memref.whole cc0_scratch1
abbrev baM : Memref sig .tc .vmem S1024x512 .f32 := Memref.whole cc0_scratch2
abbrev bbM : Memref sig .tc .vmem S1024x512 .f32 := Memref.whole cc0_scratch3
abbrev sM : Memref sig .tc .vmem S1024x128 .f32 := Memref.whole cc0_scratch4
abbrev lM : Memref sig .tc .vmem S1024x128 .f32 := Memref.whole cc0_scratch5
abbrev partM : Memref sig .tc .vmem S1024x8 .f32 := Memref.whole cc0_scratch6
abbrev pyM : Memref sig .tc .vmem S1024x8 .f32 := Memref.whole cc0_scratch7
abbrev pxM : Memref sig .tc .vmem S1024x8 .f32 := Memref.whole cc0_scratch8

/-- The semaphore the copies into the first, and into the second, weight buffer complete on. -/
def semA : DmaSems sig S_ := (cc0_scratch9.slice (Rect.unit (s := S2) ![0] S1.size inb_S2_S1_0)).squeeze S_ squeezes_S1_S_
def semB : DmaSems sig S_ := (cc0_scratch9.slice (Rect.unit (s := S2) ![1] S1.size inb_S2_S1_1)).squeeze S_ squeezes_S1_S_
@[sl_canon] theorem semA_eq (hh) : (cc0_scratch9.slice (Rect.unit (s := S2) ![0] S1.size hh)).squeeze S_ squeezes_S1_S_ = semA := by
  unfold semA; rfl
@[sl_canon] theorem semB_eq (hh) : (cc0_scratch9.slice (Rect.unit (s := S2) ![1] S1.size hh)).squeeze S_ squeezes_S1_S_ = semB := by
  unfold semB; rfl

abbrev barS : Sem sig := (SemArray.scalar (sig.barrier 0 rfl) : Sems sig S_).sem
abbrev sendY : DmaSem sig := (cc0_scratch10 : DmaSems sig S_).sem
abbrev recvY : DmaSem sig := (cc0_scratch11 : DmaSems sig S_).sem
abbrev sendX : DmaSem sig := (cc0_scratch12 : DmaSems sig S_).sem
abbrev recvX : DmaSem sig := (cc0_scratch13 : DmaSems sig S_).sem

abbrev barCell (c : Dev nD) : GSem nD τ sig := ((c : Thread nD τ), .reg barS)
abbrev sendYCell (c : Dev nD) : GSem nD τ sig := ((c : Thread nD τ), .dma sendY)
abbrev recvYCell (c : Dev nD) : GSem nD τ sig := ((c : Thread nD τ), .dma recvY)
abbrev sendXCell (c : Dev nD) : GSem nD τ sig := ((c : Thread nD τ), .dma sendX)
abbrev recvXCell (c : Dev nD) : GSem nD τ sig := ((c : Thread nD τ), .dma recvX)

/-! ## The blocks of the weight matrix -/

/-- Where block `b` of device `c`'s half of its columns starts. -/
def wOff (c : Dev nD) (b : ℕ) : Fin 2 → ℕ := ![0, 8192 * (c.val / 2) + 1024 * (b % 8)]
theorem wOff_inb (c : Dev nD) (b : ℕ) : ∀ a, wOff c b a + S2048x1024.size a ≤ S2048x16384.size a := by
  have hc := c.isLt
  have : nD = 4 := rfl
  intro a
  fin_cases a
  · show 0 + 2048 ≤ 2048; omega
  · show 8192 * (c.val / 2) + 1024 * (b % 8) + 1024 ≤ 16384; omega
/-- Block `b` (of eight) of the columns device `c` works on, as a slice of its weight array. -/
abbrev wblk (c : Dev nD) (b : ℕ) : Memref sig .tc .hbm S2048x1024 .f32 :=
  wM.slice (Rect.unit (s := S2048x16384) (wOff c b) S2048x1024.size (wOff_inb c b)) (fun _ => rfl)

theorem wblk_congr (c : Dev nD) (b : ℕ) {off : Fin 2 → ℕ} (e : off = wOff c b) (hh hs) :
    wM.slice (Rect.unit (s := S2048x16384) off S2048x1024.size hh) hs = wblk c b := by
  subst e; rfl
@[sl_canon] theorem wblk_first0 (c : Dev nD) (hh hs) :
    wM.slice (Rect.unit (s := S2048x16384) (k0_off1 c 0#32) S2048x1024.size hh) hs = wblk c 0 :=
  wblk_congr c 0 (k0_off1_eq c 0) hh hs
@[sl_canon] theorem wblk_first1 (c : Dev nD) (hh hs) :
    wM.slice (Rect.unit (s := S2048x16384) (k0_off1 c 1024#32) S2048x1024.size hh) hs = wblk c 1 :=
  wblk_congr c 1 (k0_off1_eq c 1) hh hs
@[sl_canon] theorem wblk_next_even (c : Dev nD) (i : grid0.Coords) (hi : (i 0).val + 2 < 8) (hh hs) :
    wM.slice (Rect.unit (s := S2048x16384) (k0_off3 i c) S2048x1024.size hh) hs = wblk c ((i 0).val + 2) :=
  wblk_congr c _ (by rw [k0_off3_eq]; unfold wOff; rw [Nat.mod_eq_of_lt hi]; congr 2) hh hs
@[sl_canon] theorem wblk_next_odd (c : Dev nD) (i : grid0.Coords) (hi : (i 0).val + 2 < 8) (hh hs) :
    wM.slice (Rect.unit (s := S2048x16384) (k0_off5 i c) S2048x1024.size hh) hs = wblk c ((i 0).val + 2) :=
  wblk_congr c _ (by rw [k0_off5_eq]; unfold wOff; rw [Nat.mod_eq_of_lt hi]; congr 2) hh hs

@[sl_canon] theorem wOff_thread (c : Dev nD) (b : ℕ) : wOff (c : Thread nD τ).1 b = wOff c b := by
  unfold wOff; rfl

/-! ## The body at the staging buffers -/

/-- The kernel's body at grid point `i`, on the staging buffers and the scratch. -/
abbrev bodyC (i : grid0.Coords) : Prog (TpuEff nD τ sig (Elt F) Λ₀ .tc) PUnit :=
  cc0_body i xM (hstage0_0 0) wM (Memref.isWhole_whole _) labM (hstage0_1 0) outM (hstage0_2 0)
    waM (Memref.isWhole_whole _) wbM (Memref.isWhole_whole _) baM (Memref.isWhole_whole _) bbM (Memref.isWhole_whole _)
    sM (Memref.isWhole_whole _) lM (Memref.isWhole_whole _) partM (Memref.isWhole_whole _) pyM (Memref.isWhole_whole _)
    pxM (Memref.isWhole_whole _) cc0_scratch9 cc0_scratch10 cc0_scratch11 cc0_scratch12 cc0_scratch13

theorem slots_zero (t : Fin cfg0.N) (w : Fin cfg0.W) (h : (cfg0.win w).nbuf = 1) : (cfg0.slots t w).val = 0 := by
  have := (cfg0.slots t w).isLt; omega

theorem bodyAt0_eq (t : Fin cfg0.N) : (bodyAt0 (F := F) t) = bodyC (grid0.coords t) := by
  have h0 : cfg0.slots t 0 = (0 : Fin 1) := Fin.ext (slots_zero t 0 rfl)
  have h1 : cfg0.slots t 1 = (0 : Fin 1) := Fin.ext (slots_zero t 1 rfl)
  have h2 : cfg0.slots t 2 = (0 : Fin 1) := Fin.ext (slots_zero t 2 rfl)
  unfold bodyAt0 bodyC
  simp only [h0, h1, h2]

end Cert.Proof.Ce

end
-- ==== Proof.Steps.lean ====
/-
  The values the body computes, and its grid points but the first and the last.
-/
module

public import proofs.«01_k».proof.Proof.Names
public import Idealize.ShloMosaic.Lib.VecWindow
public import Idealize.ShloMosaic.Lib.Pipeline.FrameBody

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F]

local notation "𝕄" => MT nD τ sig Unit (Elt F) ℕ UU ℕ

/-! ## What the body computes, as functions of the buffers' contents -/

/-- Column chunk `k` (128 lanes) of a tile of logits. -/
def chunk (k : Fin 4) (B : FVec F S1024x512 .f32) : FVec F S1024x128 .f32 :=
  window B ![0, 128 * k.val] S1024x128.size (by
    intro a; have := k.isLt
    fin_cases a
    · show 0 + 1024 ≤ 1024; omega
    · show 128 * k.val + 128 ≤ 512; omega)
/-- The left and the right half of a weight block. -/
def leftHalf (w : FVec F S2048x1024 .f32) : FVec F S2048x512 .f32 := window w ![0, 0] S2048x512.size inb_S2048x1024_S2048x512_0_0
def rightHalf (w : FVec F S2048x1024 .f32) : FVec F S2048x512 .f32 := window w ![0, 512] S2048x512.size inb_S2048x1024_S2048x512_0_512

/-- The exponentials of a tile added onto the running lane sums, each scaled by `vf`. -/
def procS (vf : F .f32) (s : FVec F S1024x128 .f32) (B : FVec F S1024x512 .f32) : FVec F S1024x128 .f32 :=
  k0_pay50 (k0_pay19 vf s (chunk 0 B) (chunk 1 B) (chunk 2 B) (chunk 3 B))
/-- The logit at local label column `lc`, where the tile has it, added onto the running lane sums. -/
def procL (lc : IVec S1024x1 32) (l : FVec F S1024x128 .f32) (B : FVec F S1024x512 .f32) : FVec F S1024x128 .f32 :=
  k0_pay51 (k0_pay18 lc l (chunk 0 B) (chunk 1 B) (chunk 2 B)) (chunk 3 B) k0_pay20 (k0_pay21 lc)

/-- The words the body computes of the device: its second mesh coordinate, and the first column of its half. -/
def wordY (c : Dev nD) : BitVec 32 := Scalar.remsi (Scalar.divsi (Dev.word c) 1#32) 2#32
def wordCol (c : Dev nD) : BitVec 32 := Scalar.muli (Scalar.remsi (Scalar.divsi (Dev.word c) 2#32) 2#32) 8192#32

/-- What the three running buffers hold: lane sums of exponentials, lane sums of label logits, the tile not yet summed. -/
structure St (F : FTy → Type) where
  s : FVec F S1024x128 .f32
  l : FVec F S1024x128 .f32
  b : FVec F S1024x512 .f32

/-- One grid point before the last: the waiting tile is summed, both tiles of block `w` are computed, the first is summed. -/
def step (c : Dev nD) (n : ℕ) (X : FVec F S1024x2048 .f32) (Lb : IVec S1024x1 32) (w : FVec F S2048x1024 .f32) (u : St F) : St F where
  s := procS k0_pay16 (procS (k0_pay6 (BitVec.ofNat 32 n)) u.s u.b) (k0_pay5 X (leftHalf w))
  l := procL (k0_pay17 (F := F) (BitVec.ofNat 32 n) (wordY c) (wordCol c) Lb)
        (procL (k0_pay7 (F := F) (BitVec.ofNat 32 n) (wordY c) (wordCol c) Lb) u.l u.b) (k0_pay5 X (leftHalf w))
  b := k0_pay15 X (rightHalf w)

/-- The three buffers before the first sum. -/
def st0 : St F := ⟨k0_pay2, k0_pay3, k0_pay49 k0_pay4⟩

/-- Block `b` of the weight array's contents. -/
def wcont (c : Dev nD) (b : ℕ) (Wt : FVec F S2048x16384 .f32) : FVec F S2048x1024 .f32 :=
  window Wt (wOff c b) S2048x1024.size (wOff_inb c b)

/-- The three buffers before grid point `n`. -/
def stAt (c : Dev nD) (X : FVec F S1024x2048 .f32) (Lb : IVec S1024x1 32) (Wt : FVec F S2048x16384 .f32) : ℕ → St F
  | 0 => st0
  | n + 1 => step c n X Lb (wcont c n Wt) (stAt c X Lb Wt n)

/-- A device's two sums after the last grid point, one value per row. -/
def fin1 (c : Dev nD) (u : St F) : FVec F S1024x1 .f32 := k0_pay45 (procS k0_pay16 u.s u.b)
def fin2 (c : Dev nD) (Lb : IVec S1024x1 32) (u : St F) : FVec F S1024x1 .f32 :=
  k0_pay46 (procL (k0_pay40 (F := F) (wordY c) (wordCol c) Lb) u.l u.b)

/-! ## Reading whole buffers -/

section Reading
variable {sp : Space} {S : Shape} {e : EltTy}

omit [FloatOps F] in
/-- A store of the whole buffer leaves its payload. -/
theorem writes_top (b : Ref sig .tc) (f : b.ty.Contents (Elt F)) {off : Fin b.ty.shape.rank → ℕ} (inb) (w) (L) :
    (Memref.whole b).view.writes (Elt F) f (⟨Rect.unit off b.ty.shape.size inb, w⟩ :: L) = w := by
  have h := View.read_writes_full (Val := Elt F) (Memref.whole b).view f inb w L
  rwa [View.read_whole] at h

/-- A load reads a window of what the view reads. -/
theorem readAt_win (v : View sig .tc sp S e) (f : v.ty.Contents (Elt F)) {off size : Fin S.rank → ℕ} (inb) :
    v.readAt (Elt F) (Rect.unit off size inb).toLoadRect f = window (v.read (Elt F) f) off size inb :=
  View.readAt_unit _ _ inb rfl inb

/-- A load after a store of the whole buffer reads a window of the payload. -/
theorem readCov_win (v : View sig .tc sp S e) {off off' size : Fin S.rank → ℕ} (inb inb') (w) (L) :
    v.readCov (Val := Elt F) (⟨Rect.unit off' S.size inb', w⟩ :: L) (Rect.unit off size inb).toLoadRect
      = window (s := S) w off size inb := by
  unfold View.readCov
  rw [View.readAt_unit _ _ inb rfl inb, View.read_writes_full]

/-- A window of the whole shape. -/
theorem window_full {α : Type} (x : S.Idx → α) (off : Fin S.rank → ℕ) (inb) : window x off S.size inb = x :=
  funext fun y => congrArg x (funext fun a => Fin.ext (by
    show off a + 1 * (y a).val = (y a).val
    have := inb a; omega))

omit [FloatOps F] in
theorem read_x (f) : View.read (Elt F) xM.view f = f := View.read_whole _ _
omit [FloatOps F] in
theorem read_lab (f) : View.read (Elt F) labM.view f = f := View.read_whole _ _
omit [FloatOps F] in
theorem read_wa (f) : View.read (Elt F) waM.view f = f := View.read_whole _ _
omit [FloatOps F] in
theorem read_wb (f) : View.read (Elt F) wbM.view f = f := View.read_whole _ _
omit [FloatOps F] in
theorem read_ba (f) : View.read (Elt F) baM.view f = f := View.read_whole _ _
omit [FloatOps F] in
theorem read_bb (f) : View.read (Elt F) bbM.view f = f := View.read_whole _ _
omit [FloatOps F] in
theorem read_s (f) : View.read (Elt F) sM.view f = f := View.read_whole _ _
omit [FloatOps F] in
theorem read_l (f) : View.read (Elt F) lM.view f = f := View.read_whole _ _

end Reading

theorem wordY_eq (c : Dev nD) : Scalar.remsi (Scalar.divsi (BitVec.ofNat 32 (c : Thread nD τ).1.val) 1#32) 2#32 = wordY c := rfl
theorem wordCol_eq (c : Dev nD) :
    Scalar.muli (Scalar.remsi (Scalar.divsi (BitVec.ofNat 32 (c : Thread nD τ).1.val) 2#32) 2#32) 8192#32 = wordCol c := rfl

theorem chunk0_eq (B : FVec F S1024x512 .f32) (inb) : window B ![0, 0] S1024x128.size inb = chunk 0 B := rfl
theorem chunk1_eq (B : FVec F S1024x512 .f32) (inb) : window B ![0, 128] S1024x128.size inb = chunk 1 B := rfl
theorem chunk2_eq (B : FVec F S1024x512 .f32) (inb) : window B ![0, 256] S1024x128.size inb = chunk 2 B := rfl
theorem chunk3_eq (B : FVec F S1024x512 .f32) (inb) : window B ![0, 384] S1024x128.size inb = chunk 3 B := rfl
theorem left_eq (w : FVec F S2048x1024 .f32) (inb) : window w ![0, 0] S2048x512.size inb = leftHalf w := rfl
theorem right_eq (w : FVec F S2048x1024 .f32) (inb) : window w ![0, 512] S2048x512.size inb = rightHalf w := rfl
theorem procS_first (a : BitVec 32) (s : FVec F S1024x128 .f32) (B : FVec F S1024x512 .f32) :
    k0_pay13 (k0_pay10 (k0_pay6 a) s (k0_pay8 a (chunk 0 B)) (chunk 1 B) (chunk 2 B) (chunk 3 B)) = procS (k0_pay6 a) s B := rfl
theorem procL_first (lc : IVec S1024x1 32) (l : FVec F S1024x128 .f32) (B : FVec F S1024x512 .f32) :
    k0_pay14 (k0_pay9 lc l (chunk 0 B) (chunk 1 B) (chunk 2 B)) (chunk 3 B) (k0_pay11 lc) k0_pay12 = procL lc l B := rfl
theorem procS_first_odd (a : BitVec 32) (s : FVec F S1024x128 .f32) (B : FVec F S1024x512 .f32) :
    k0_pay30 (k0_pay27 (k0_pay23 a) s (k0_pay25 a (chunk 0 B)) (chunk 1 B) (chunk 2 B) (chunk 3 B)) = procS (k0_pay6 a) s B := rfl
theorem procL_first_odd (lc : IVec S1024x1 32) (l : FVec F S1024x128 .f32) (B : FVec F S1024x512 .f32) :
    k0_pay31 (k0_pay26 lc l (chunk 0 B) (chunk 1 B) (chunk 2 B)) (chunk 3 B) (k0_pay28 lc) k0_pay29 = procL lc l B := rfl
theorem procS_second_odd (vf : F .f32) (s : FVec F S1024x128 .f32) (B : FVec F S1024x512 .f32) :
    k0_pay52 (k0_pay36 vf s (chunk 0 B) (chunk 1 B) (chunk 2 B) (chunk 3 B)) = procS vf s B := rfl
theorem procL_second_odd (lc : IVec S1024x1 32) (l : FVec F S1024x128 .f32) (B : FVec F S1024x512 .f32) :
    k0_pay53 (k0_pay35 lc l (chunk 0 B) (chunk 1 B) (chunk 2 B)) (chunk 3 B) k0_pay37 (k0_pay38 lc) = procL lc l B := rfl
theorem procS_second (vf : F .f32) (s : FVec F S1024x128 .f32) (B : FVec F S1024x512 .f32) :
    k0_pay50 (k0_pay19 vf s (chunk 0 B) (chunk 1 B) (chunk 2 B) (chunk 3 B)) = procS vf s B := rfl
theorem procL_second (lc : IVec S1024x1 32) (l : FVec F S1024x128 .f32) (B : FVec F S1024x512 .f32) :
    k0_pay51 (k0_pay18 lc l (chunk 0 B) (chunk 1 B) (chunk 2 B)) (chunk 3 B) k0_pay20 (k0_pay21 lc) = procL lc l B := rfl

/-! ## What a grid point holds -/

section Pieces
variable (c : Dev nD) (X : Buf (Elt F) (xM.view.loc (c : Thread nD τ))) (Lb : Buf (Elt F) (labM.view.loc (c : Thread nD τ)))
  (Wt : Buf (Elt F) (wM.view.loc (c : Thread nD τ)))

/-- The inputs, the three running buffers at `u`, the tile buffer at anything, and what the core owes. -/
def Held (u : St F) (O : CellTallies nD τ sig Unit) : sProp 𝕄 :=
  iprop((xM.view.loc (c : Thread nD τ) ↦{fullShare} X) ∗ (labM.view.loc (c : Thread nD τ) ↦{fullShare} Lb)
    ∗ (∃ f : Buf (Elt F) (baM.view.loc (c : Thread nD τ)), baM.view.loc (c : Thread nD τ) ↦{fullShare} f)
    ∗ (bbM.view.loc (c : Thread nD τ) ↦{fullShare} u.b)
    ∗ (sM.view.loc (c : Thread nD τ) ↦{fullShare} u.s) ∗ (lM.view.loc (c : Thread nD τ) ↦{fullShare} u.l)
    ∗ ∃ W, owes (c : Thread nD τ) O W)

/-- Block `b` on its way into the first weight buffer, on the first half share of the weights; the rest of that share. -/
def FlyA (b : ℕ) : sProp 𝕄 :=
  iprop(Transfers.Flight countersEmb (c : Thread nD τ) (SemLoc.dma semA.sem) () 262144
      iprop((waM.view.loc (c : Thread nD τ) ↦{fullShare} (wcont c b Wt : Buf (Elt F) (waM.view.loc (c : Thread nD τ))))
        ∗ (wM.view.loc (c : Thread nD τ) ↦[(wblk c b).view.set]{fullShare.left} Wt))
    ∗ (wM.view.loc (c : Thread nD τ) ↦[Finset.univ \ (wblk c b).view.set]{fullShare.left} Wt))
/-- The same for the second weight buffer, on the other half share. -/
def FlyB (b : ℕ) : sProp 𝕄 :=
  iprop(Transfers.Flight countersEmb (c : Thread nD τ) (SemLoc.dma semB.sem) () 262144
      iprop((wbM.view.loc (c : Thread nD τ) ↦{fullShare} (wcont c b Wt : Buf (Elt F) (wbM.view.loc (c : Thread nD τ))))
        ∗ (wM.view.loc (c : Thread nD τ) ↦[(wblk c b).view.set]{fullShare.right} Wt))
    ∗ (wM.view.loc (c : Thread nD τ) ↦[Finset.univ \ (wblk c b).view.set]{fullShare.right} Wt))
/-- No copy into the first (the second) weight buffer under way. -/
def HomeA : sProp 𝕄 :=
  iprop((∃ f : Buf (Elt F) (waM.view.loc (c : Thread nD τ)), waM.view.loc (c : Thread nD τ) ↦{fullShare} f)
    ∗ semVal ((c : Thread nD τ), SemLoc.dma semA.sem) 0 ∗ (wM.view.loc (c : Thread nD τ) ↦{fullShare.left} Wt))
def HomeB : sProp 𝕄 :=
  iprop((∃ f : Buf (Elt F) (wbM.view.loc (c : Thread nD τ)), wbM.view.loc (c : Thread nD τ) ↦{fullShare} f)
    ∗ semVal ((c : Thread nD τ), SemLoc.dma semB.sem) 0 ∗ (wM.view.loc (c : Thread nD τ) ↦{fullShare.right} Wt))

omit [FloatOps F] in
/-- A buffer's contents restated. -/
theorem pts_eq {ℓ : Loc nD τ sig} {S : Finset (Idx ℓ)} {q : PosShare TreeShare} {f g : Buf (Elt F) ℓ} (h : f = g) :
    (iprop(ℓ ↦[S]{q} f) : sProp 𝕄) ⊢ ℓ ↦[S]{q} g := h ▸ .rfl

omit [FloatOps F] in
/-- What a copy of block `b` leaves in a weight buffer. -/
theorem landedA (b : ℕ) (g : Buf (Elt F) (waM.view.loc (c : Thread nD τ))) :
    View.write (Elt F) waM.view g ((wblk c b).view.read (Elt F) Wt) Finset.univ = wcont c b Wt :=
  View.write_whole_univ _ _ _
omit [FloatOps F] in
theorem landedB (b : ℕ) (g : Buf (Elt F) (wbM.view.loc (c : Thread nD τ))) :
    View.write (Elt F) wbM.view g ((wblk c b).view.read (Elt F) Wt) Finset.univ = wcont c b Wt :=
  View.write_whole_univ _ _ _

/-- The pieces of `Held` (written out), the three running buffers' contents restated. -/
theorem held_of (u : St F) (O : CellTallies nD τ sig Unit) {W} {fa : Buf (Elt F) (baM.view.loc (c : Thread nD τ))}
    {b : Buf (Elt F) (bbM.view.loc (c : Thread nD τ))} {s : Buf (Elt F) (sM.view.loc (c : Thread nD τ))}
    {l : Buf (Elt F) (lM.view.loc (c : Thread nD τ))} (hb : b = u.b) (hs : s = u.s) (hl : l = u.l) :
    iprop((xM.view.loc (c : Thread nD τ) ↦{fullShare} X) ∗ (labM.view.loc (c : Thread nD τ) ↦{fullShare} Lb)
      ∗ (baM.view.loc (c : Thread nD τ) ↦{fullShare} fa) ∗ (bbM.view.loc (c : Thread nD τ) ↦{fullShare} b)
      ∗ (sM.view.loc (c : Thread nD τ) ↦{fullShare} s) ∗ (lM.view.loc (c : Thread nD τ) ↦{fullShare} l)
      ∗ owes (c : Thread nD τ) O W : sProp 𝕄)
    ⊢ iprop((xM.view.loc (c : Thread nD τ) ↦{fullShare} X) ∗ (labM.view.loc (c : Thread nD τ) ↦{fullShare} Lb)
      ∗ (∃ f : Buf (Elt F) (baM.view.loc (c : Thread nD τ)), baM.view.loc (c : Thread nD τ) ↦{fullShare} f)
      ∗ (bbM.view.loc (c : Thread nD τ) ↦{fullShare} u.b)
      ∗ (sM.view.loc (c : Thread nD τ) ↦{fullShare} u.s) ∗ (lM.view.loc (c : Thread nD τ) ↦{fullShare} u.l)
      ∗ ∃ W, owes (c : Thread nD τ) O W) := by
  subst hb hs hl
  iintro ⟨HX, HL, Ha, Hb, Hs, Hl, HO⟩
  isplitl [HX]; · iexact HX
  isplitl [HL]; · iexact HL
  isplitl [Ha]; · iexists _; iexact Ha
  isplitl [Hb]; · iexact Hb
  isplitl [Hs]; · iexact Hs
  isplitl [Hl]; · iexact Hl
  iexists _; iexact HO

end Pieces

section Runs
variable (c : Dev nD) (X : Buf (Elt F) (xM.view.loc (c : Thread nD τ))) (Lb : Buf (Elt F) (labM.view.loc (c : Thread nD τ)))
  (Wt : Buf (Elt F) (wM.view.loc (c : Thread nD τ))) (u : St F) (O : CellTallies nD τ sig Unit) (i : grid0.Coords) (n : ℕ)

/-- An even grid point from 2 to 4: block `i` waited for in the first weight buffer, both its tiles computed, block
    `i + 2` started. -/
theorem run_even (hi : (i 0).val + 2 < 8) (h1 : ¬ k0_cond1 i = 1#1) (h2 : k0_cond2 i = 1#1) (h3 : k0_cond3 i = 1#1)
    (h4 : ¬ k0_cond4 i = 1#1) (h6 : ¬ k0_cond6 i = 1#1) (hn : n = (i 0).val) (Q : PUnit → sProp 𝕄) :
    iprop(Held c X Lb u O ∗ FlyA c Wt n ∗ MayWait (c : Thread nD τ) (SemLoc.dma semA.sem) () O
      ∗ ((Held c X Lb (step c n X Lb (wcont c n Wt) u) O ∗ FlyA c Wt (n + 2)) -∗ Q ⟨⟩))
    ⊢ wp frame (wpE (defs₀ (F := F)) 𝒱₀ (c : Thread nD τ) none) Set.univ (bodyC i) Q := by
  subst hn
  have hMW : (MayWait (c : Thread nD τ) (SemLoc.dma semA.sem) () O : sProp 𝕄) ⊢ MayWait (c : Thread nD τ) (SemLoc.dma semA.sem) () O := .rfl
  unfold Held FlyA
  iintro ⟨⟨HX, HL, ⟨%f7, Ha⟩, Hb, Hs, Hl, ⟨%W, HO⟩⟩, ⟨HF, HWr⟩, #HM, HQ⟩
  sl_unfold [bodyC, cc0_body]
  sl_exec (disch := first | exact h1 | exact h2 | exact h3 | exact h4 | exact h6 | exact hi)
  sl_step
  iapply HQ
  isplitr [HF HWr]
  · iapply (held_of c X Lb (step c (i 0).val X Lb (wcont c (i 0).val Wt) u) O ?_ ?_ ?_) $$ [HX HL Ha Hb Hs Hl HO]
    pick_goal 4
    · isplitl [HX]; · iexact HX
      isplitl [HL]; · iexact HL
      isplitl [Ha]; · iexact Ha
      isplitl [Hb]; · iexact Hb
      isplitl [Hs]; · iexact Hs
      isplitl [Hl]; · iexact Hl
      iexact HO
    all_goals
      refine (writes_top _ _ _ _ _).trans ?_
      sl_unfold_run_names
      simp (config := {proj := false}) only [readAt_win, readCov_win, window_full, read_x, read_lab, read_wa, read_wb, read_ba,
        read_bb, read_s, read_l, chunk0_eq, chunk1_eq, chunk2_eq, chunk3_eq, left_eq, right_eq, procS_first, procL_first, procS_second,
        procL_second, wordY_eq, wordCol_eq]
      rfl
  isplitl [HF]
  · irw [← landedA c Wt ((i 0).val + 2) (wcont c (i 0).val Wt)]
    iexact HF
  iexact HWr

/-- An odd grid point from 1 to 5: block `i` waited for in the second weight buffer, both its tiles computed, block
    `i + 2` started. -/
theorem run_odd (hi : (i 0).val + 2 < 8) (h1 : ¬ k0_cond1 i = 1#1) (h2 : ¬ k0_cond2 i = 1#1) (h5 : k0_cond5 i = 1#1)
    (h4 : k0_cond4 i = 1#1) (h6 : ¬ k0_cond6 i = 1#1) (hn : n = (i 0).val) (Q : PUnit → sProp 𝕄) :
    iprop(Held c X Lb u O ∗ FlyB c Wt n ∗ MayWait (c : Thread nD τ) (SemLoc.dma semB.sem) () O
      ∗ ((Held c X Lb (step c n X Lb (wcont c n Wt) u) O ∗ FlyB c Wt (n + 2)) -∗ Q ⟨⟩))
    ⊢ wp frame (wpE (defs₀ (F := F)) 𝒱₀ (c : Thread nD τ) none) Set.univ (bodyC i) Q := by
  subst hn
  have hMW : (MayWait (c : Thread nD τ) (SemLoc.dma semB.sem) () O : sProp 𝕄) ⊢ MayWait (c : Thread nD τ) (SemLoc.dma semB.sem) () O := .rfl
  unfold Held FlyB
  iintro ⟨⟨HX, HL, ⟨%f7, Ha⟩, Hb, Hs, Hl, ⟨%W, HO⟩⟩, ⟨HF, HWr⟩, #HM, HQ⟩
  sl_unfold [bodyC, cc0_body]
  sl_exec (disch := first | exact h1 | exact h2 | exact h5 | exact h4 | exact h6 | exact hi)
  sl_step
  iapply HQ
  isplitr [HF HWr]
  · iapply (held_of c X Lb (step c (i 0).val X Lb (wcont c (i 0).val Wt) u) O ?_ ?_ ?_) $$ [HX HL Ha Hb Hs Hl HO]
    pick_goal 4
    · isplitl [HX]; · iexact HX
      isplitl [HL]; · iexact HL
      isplitl [Ha]; · iexact Ha
      isplitl [Hb]; · iexact Hb
      isplitl [Hs]; · iexact Hs
      isplitl [Hl]; · iexact Hl
      iexact HO
    all_goals
      refine (writes_top _ _ _ _ _).trans ?_
      sl_unfold_run_names
      simp (config := {proj := false}) only [readAt_win, readCov_win, window_full, read_x, read_lab, read_wa, read_wb, read_ba,
        read_bb, read_s, read_l, chunk0_eq, chunk1_eq, chunk2_eq, chunk3_eq, left_eq, right_eq, procS_first_odd, procL_first_odd,
        procS_second_odd, procL_second_odd, wordY_eq, wordCol_eq]
      rfl
  isplitl [HF]
  · irw [← landedB c Wt ((i 0).val + 2) (wcont c (i 0).val Wt)]
    iexact HF
  iexact HWr

/-- Grid point 6: as the even points before it, but no further block to start in the first weight buffer. -/
theorem run_even_last (h1 : ¬ k0_cond1 i = 1#1) (h2 : k0_cond2 i = 1#1) (h3 : ¬ k0_cond3 i = 1#1)
    (h4 : ¬ k0_cond4 i = 1#1) (h6 : ¬ k0_cond6 i = 1#1) (hn : n = (i 0).val) (Q : PUnit → sProp 𝕄) :
    iprop(Held c X Lb u O ∗ FlyA c Wt n ∗ MayWait (c : Thread nD τ) (SemLoc.dma semA.sem) () O
      ∗ ((Held c X Lb (step c n X Lb (wcont c n Wt) u) O ∗ HomeA c Wt) -∗ Q ⟨⟩))
    ⊢ wp frame (wpE (defs₀ (F := F)) 𝒱₀ (c : Thread nD τ) none) Set.univ (bodyC i) Q := by
  subst hn
  have hMW : (MayWait (c : Thread nD τ) (SemLoc.dma semA.sem) () O : sProp 𝕄) ⊢ MayWait (c : Thread nD τ) (SemLoc.dma semA.sem) () O := .rfl
  unfold Held FlyA HomeA
  iintro ⟨⟨HX, HL, ⟨%f7, Ha⟩, Hb, Hs, Hl, ⟨%W, HO⟩⟩, ⟨HF, HWr⟩, #HM, HQ⟩
  sl_unfold [bodyC, cc0_body]
  sl_exec (disch := first | exact h1 | exact h2 | exact h3 | exact h4 | exact h6)
  sl_step
  iapply HQ
  isplitr [HF HWr HF_dst]
  · iapply (held_of c X Lb (step c (i 0).val X Lb (wcont c (i 0).val Wt) u) O ?_ ?_ ?_) $$ [HX HL Ha Hb Hs Hl HO]
    pick_goal 4
    · isplitl [HX]; · iexact HX
      isplitl [HL]; · iexact HL
      isplitl [Ha]; · iexact Ha
      isplitl [Hb]; · iexact Hb
      isplitl [Hs]; · iexact Hs
      isplitl [Hl]; · iexact Hl
      iexact HO
    all_goals
      refine (writes_top _ _ _ _ _).trans ?_
      sl_unfold_run_names
      simp (config := {proj := false}) only [readAt_win, readCov_win, window_full, read_x, read_lab, read_wa, read_wb, read_ba,
        read_bb, read_s, read_l, chunk0_eq, chunk1_eq, chunk2_eq, chunk3_eq, left_eq, right_eq, procS_first, procL_first, procS_second,
        procL_second, wordY_eq, wordCol_eq]
      rfl
  isplitl [HF_dst]; · iexists _; iexact HF_dst
  isplitl [HF]; · iexact HF
  iexact HWr

/-- Grid point 7: as the even points before it, but no further block to start in the second weight buffer. -/
theorem run_odd_last (h1 : ¬ k0_cond1 i = 1#1) (h2 : ¬ k0_cond2 i = 1#1) (h5 : ¬ k0_cond5 i = 1#1)
    (h4 : k0_cond4 i = 1#1) (h6 : ¬ k0_cond6 i = 1#1) (hn : n = (i 0).val) (Q : PUnit → sProp 𝕄) :
    iprop(Held c X Lb u O ∗ FlyB c Wt n ∗ MayWait (c : Thread nD τ) (SemLoc.dma semB.sem) () O
      ∗ ((Held c X Lb (step c n X Lb (wcont c n Wt) u) O ∗ HomeB c Wt) -∗ Q ⟨⟩))
    ⊢ wp frame (wpE (defs₀ (F := F)) 𝒱₀ (c : Thread nD τ) none) Set.univ (bodyC i) Q := by
  subst hn
  have hMW : (MayWait (c : Thread nD τ) (SemLoc.dma semB.sem) () O : sProp 𝕄) ⊢ MayWait (c : Thread nD τ) (SemLoc.dma semB.sem) () O := .rfl
  unfold Held FlyB HomeB
  iintro ⟨⟨HX, HL, ⟨%f7, Ha⟩, Hb, Hs, Hl, ⟨%W, HO⟩⟩, ⟨HF, HWr⟩, #HM, HQ⟩
  sl_unfold [bodyC, cc0_body]
  sl_exec (disch := first | exact h1 | exact h2 | exact h5 | exact h4 | exact h6)
  sl_step
  iapply HQ
  isplitr [HF HWr HF_dst]
  · iapply (held_of c X Lb (step c (i 0).val X Lb (wcont c (i 0).val Wt) u) O ?_ ?_ ?_) $$ [HX HL Ha Hb Hs Hl HO]
    pick_goal 4
    · isplitl [HX]; · iexact HX
      isplitl [HL]; · iexact HL
      isplitl [Ha]; · iexact Ha
      isplitl [Hb]; · iexact Hb
      isplitl [Hs]; · iexact Hs
      isplitl [Hl]; · iexact Hl
      iexact HO
    all_goals
      refine (writes_top _ _ _ _ _).trans ?_
      sl_unfold_run_names
      simp (config := {proj := false}) only [readAt_win, readCov_win, window_full, read_x, read_lab, read_wa, read_wb, read_ba,
        read_bb, read_s, read_l, chunk0_eq, chunk1_eq, chunk2_eq, chunk3_eq, left_eq, right_eq, procS_first_odd, procL_first_odd,
        procS_second_odd, procL_second_odd, wordY_eq, wordCol_eq]
      rfl
  isplitl [HF_dst]; · iexists _; iexact HF_dst
  isplitl [HF]; · iexact HF
  iexact HWr

end Runs

end Cert.Proof.Ce

end
-- ==== Proof.Proto.lean ====
/-
  The exchange between the devices, as a schedule of rounds: who pays which semaphore cell with what, what each device
  owes, in what order the cells may be waited for, and the ghost state a device carries through the kernel.
-/
module

public import proofs.«01_k».proof.Proof.Steps

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F]

local notation "𝕄" => MT nD τ sig Unit (Elt F) ℕ UU ℕ

/-! ## What is exchanged -/

/-- The two sums of a device, one value per row of each. -/
structure Two (F : FTy → Type) where
  a : FVec F S1024x1 .f32
  b : FVec F S1024x1 .f32

/-- The first two columns of an exchange buffer are `t`. -/
def Cols (f : FVec F S1024x8 .f32) (t : Two F) : Prop :=
  window f ![0, 0] S1024x1.size inb_S1024x8_S1024x1_0_0 = t.a ∧ window f ![0, 1] S1024x1.size inb_S1024x8_S1024x1_0_1 = t.b

/-- The sums after the first exchange. -/
def plusY (p : Dev nD → Two F) (c : Dev nD) : Two F := ⟨k0_pay47 (p c).a (p (ny c)).a, k0_pay48 (p c).b (p (ny c)).b⟩
/-- The rows of the result after the second exchange. -/
def result (p : Dev nD → Two F) (c : Dev nD) : FVec F S1024x1 .f32 :=
  k0_pay1 (plusY p c).a (plusY p (nx c)).a (plusY p c).b (plusY p (nx c)).b

/-- The units a copy of an exchange buffer counts. -/
abbrev N : ℕ := pyM.view.amount (.dma recvY)
theorem N_pos : 0 < N := by decide +kernel

variable (p : Dev nD → Two F)

/-- Exchange buffers at contents whose first two columns are known. -/
def partAt (c : Dev nD) (t : Two F) : sProp 𝕄 :=
  iprop(∃ f : Buf (Elt F) (partM.view.loc (c : Thread nD τ)), ⌜Cols f t⌝ ∗ (partM.view.loc (c : Thread nD τ) ↦{fullShare} f))
def pyAt (c : Dev nD) (t : Two F) : sProp 𝕄 :=
  iprop(∃ f : Buf (Elt F) (pyM.view.loc (c : Thread nD τ)), ⌜Cols f t⌝ ∗ (pyM.view.loc (c : Thread nD τ) ↦{fullShare} f))
def pxAt (c : Dev nD) (t : Two F) : sProp 𝕄 :=
  iprop(∃ f : Buf (Elt F) (pxM.view.loc (c : Thread nD τ)), ⌜Cols f t⌝ ∗ (pxM.view.loc (c : Thread nD τ) ↦{fullShare} f))
/-- Exchange buffers at anything. -/
def partAny (c : Dev nD) : sProp 𝕄 :=
  iprop(∃ f : Buf (Elt F) (partM.view.loc (c : Thread nD τ)), partM.view.loc (c : Thread nD τ) ↦{fullShare} f)
def pyAny (c : Dev nD) : sProp 𝕄 :=
  iprop(∃ f : Buf (Elt F) (pyM.view.loc (c : Thread nD τ)), pyM.view.loc (c : Thread nD τ) ↦{fullShare} f)
def pxAny (c : Dev nD) : sProp 𝕄 :=
  iprop(∃ f : Buf (Elt F) (pxM.view.loc (c : Thread nD τ)), pxM.view.loc (c : Thread nD τ) ↦{fullShare} f)

/-- The two units of device `c`'s barrier cell: from `ny c` (duty `false`) its first receiving buffer and that its first
    receiving cell is open, from `nx c` (duty `true`) the same of its second. -/
def barPay (c : Dev nD) : Bool → sProp 𝕄
  | false => iprop(pyAny (ny c) ∗ reached ER (recvYCell (ny c)) 0)
  | true => iprop(pxAny (nx c) ∗ reached ER (recvXCell (nx c)) 0)

theorem sendY_ne_bar : (SemLoc.dma sendY : SemLoc sig) ≠ .reg barS := fun h => by cases h
theorem recvY_ne_bar : (SemLoc.dma recvY : SemLoc sig) ≠ .reg barS := fun h => by cases h
theorem sendX_ne_bar : (SemLoc.dma sendX : SemLoc sig) ≠ .reg barS := fun h => by cases h
theorem recvX_ne_bar : (SemLoc.dma recvX : SemLoc sig) ≠ .reg barS := fun h => by cases h
theorem recvY_ne_sendY : (SemLoc.dma recvY : SemLoc sig) ≠ .dma sendY := by decide
theorem sendX_ne_sendY : (SemLoc.dma sendX : SemLoc sig) ≠ .dma sendY := by decide
theorem sendX_ne_recvY : (SemLoc.dma sendX : SemLoc sig) ≠ .dma recvY := by decide
theorem recvX_ne_sendY : (SemLoc.dma recvX : SemLoc sig) ≠ .dma sendY := by decide
theorem recvX_ne_recvY : (SemLoc.dma recvX : SemLoc sig) ≠ .dma recvY := by decide
theorem recvX_ne_sendX : (SemLoc.dma recvX : SemLoc sig) ≠ .dma sendX := by decide

/-- One of a TensorCore's four cells the copies between devices complete on. -/
abbrev IsCopy (g : GSem nD τ sig) : Prop :=
  g.1.2 = .tc ∧ (g.2 = .dma sendY ∨ g.2 = .dma recvY ∨ g.2 = .dma sendX ∨ g.2 = .dma recvX)

/-- One round: two units on every barrier cell, one copy on each of the four copy cells. A copy's own cell gives the sent
    buffer back; the receiver's cell gives the receiving buffer at the sender's columns. -/
def exRd : Rounds.Schedule (GSem nD τ sig) Bool 𝕄 where
  duties g r := if r = 0 ∧ g.1.2 = .tc ∧ g.2 = .reg barS then {false, true} else if r = 0 ∧ IsCopy g then {false} else ∅
  unitless _ := False
  amount g _ _ := if g.2 = .reg barS then 1 else N
  payload g _ d :=
    if g.2 = .reg barS then barPay g.1.1 d
    else if g.2 = .dma sendY then partAt g.1.1 (p g.1.1)
    else if g.2 = .dma recvY then pyAt g.1.1 (p (ny g.1.1))
    else if g.2 = .dma sendX then partAt g.1.1 (plusY p g.1.1)
    else if g.2 = .dma recvX then pxAt g.1.1 (plusY p (nx g.1.1))
    else iprop(emp)
  amount_pos g _ _ _ := by
    by_cases h : g.2 = .reg barS
    · rw [if_pos h]; exact Nat.one_pos
    · rw [if_neg h]; exact N_pos

instance barPay_storable (c : Dev nD) (d : Bool) : BI.Storable (upEmb : UEmb _ 𝕄) (barPay (F := F) c d) := by
  cases d <;> (unfold barPay pyAny pxAny; infer_instance)
instance exRd_payload_storable (g : GSem nD τ sig) (r : ℕ) (d : Bool) : BI.Storable (upEmb : UEmb _ 𝕄) ((exRd p).payload g r d) := by
  show BI.Storable upEmb (if g.2 = .reg barS then barPay g.1.1 d
    else if g.2 = .dma sendY then partAt g.1.1 (p g.1.1)
    else if g.2 = .dma recvY then pyAt g.1.1 (p (ny g.1.1))
    else if g.2 = .dma sendX then partAt g.1.1 (plusY p g.1.1)
    else if g.2 = .dma recvX then pxAt g.1.1 (plusY p (nx g.1.1))
    else iprop(emp))
  unfold partAt pyAt pxAt
  (repeat' split) <;> infer_instance

section Tables
variable (c : Dev nD)

theorem duties_bar : (exRd p).duties (barCell c) 0 = {false, true} := by dsimp only [exRd]; exact if_pos ⟨rfl, rfl, rfl⟩
theorem duties_copy (s : DmaSem sig) (h : IsCopy ((c : Thread nD τ), .dma s)) : (exRd p).duties ((c : Thread nD τ), .dma s) 0 = {false} := by
  dsimp only [exRd]; rw [if_neg (fun h => by cases h.2.2), if_pos ⟨rfl, h⟩]
theorem duties_later (g : GSem nD τ sig) : ∀ r, 1 ≤ r → (exRd p).duties g r = ∅ :=
  fun r hr => by dsimp only [exRd]; rw [if_neg (fun h => by omega), if_neg (fun h => by omega)]
theorem copy_sendY : IsCopy (sendYCell c) := ⟨rfl, .inl rfl⟩
theorem copy_recvY : IsCopy (recvYCell c) := ⟨rfl, .inr (.inl rfl)⟩
theorem copy_sendX : IsCopy (sendXCell c) := ⟨rfl, .inr (.inr (.inl rfl))⟩
theorem copy_recvX : IsCopy (recvXCell c) := ⟨rfl, .inr (.inr (.inr rfl))⟩
theorem mem_copy (s : DmaSem sig) (h : IsCopy ((c : Thread nD τ), .dma s)) : false ∈ (exRd p).duties ((c : Thread nD τ), .dma s) 0 := by
  rw [duties_copy p c s h]; exact Finset.mem_singleton_self _
theorem mem_bar (d : Bool) : d ∈ (exRd p).duties (barCell c) 0 := by rw [duties_bar]; cases d <;> decide

theorem amount_bar (d : Bool) : (exRd p).amount (barCell c) 0 d = 1 := by dsimp only [exRd]; exact if_pos rfl
theorem amount_copy (s : DmaSem sig) (d : Bool) : (exRd p).amount ((c : Thread nD τ), .dma s) 0 d = N := by
  dsimp only [exRd]; exact if_neg (fun h => by cases h)

theorem expect_bar : (exRd p).expect (barCell c) 0 = 2 := by
  unfold Schedule.expect Schedule.amountOf
  rw [duties_bar, Finset.sum_pair (by decide), amount_bar, amount_bar]
theorem expect_copy (s : DmaSem sig) (h : IsCopy ((c : Thread nD τ), .dma s)) : (exRd p).expect ((c : Thread nD τ), .dma s) 0 = N := by
  unfold Schedule.expect Schedule.amountOf; rw [duties_copy p c s h, Finset.sum_singleton, amount_copy]

theorem payload_bar (d : Bool) : (exRd p).payload (barCell c) 0 d = barPay c d := by dsimp only [exRd]; exact if_pos rfl
theorem payload_sendY (d : Bool) : (exRd p).payload (sendYCell c) 0 d = partAt c (p c) := by
  dsimp only [exRd]; rw [if_neg sendY_ne_bar, if_pos rfl]
theorem payload_recvY (d : Bool) : (exRd p).payload (recvYCell c) 0 d = pyAt c (p (ny c)) := by
  dsimp only [exRd]; rw [if_neg recvY_ne_bar, if_neg recvY_ne_sendY, if_pos rfl]
theorem payload_sendX (d : Bool) : (exRd p).payload (sendXCell c) 0 d = partAt c (plusY p c) := by
  dsimp only [exRd]; rw [if_neg sendX_ne_bar, if_neg sendX_ne_sendY, if_neg sendX_ne_recvY, if_pos rfl]
theorem payload_recvX (d : Bool) : (exRd p).payload (recvXCell c) 0 d = pxAt c (plusY p (nx c)) := by
  dsimp only [exRd]; rw [if_neg recvX_ne_bar, if_neg recvX_ne_sendY, if_neg recvX_ne_recvY, if_neg recvX_ne_sendX, if_pos rfl]

theorem rest_bar : bigSep ((exRd p).duties (barCell c) 0 \ ∅) (fun d => (exRd p).payload (barCell c) 0 d)
    = iprop(barPay c false ∗ barPay c true) := by
  rw [Finset.sdiff_empty, duties_bar, bigSep_insert (by decide), bigSep_singleton, payload_bar, payload_bar]
  rfl
theorem rest_copy (s : DmaSem sig) (h : IsCopy ((c : Thread nD τ), .dma s)) :
    bigSep ((exRd p).duties ((c : Thread nD τ), .dma s) 0 \ ∅) (fun d => (exRd p).payload ((c : Thread nD τ), .dma s) 0 d)
      = (exRd p).payload ((c : Thread nD τ), .dma s) 0 false := by
  rw [Finset.sdiff_empty, duties_copy p c s h, bigSep_singleton]

end Tables

/-! ## What a device owes; the order of the cells -/

/-- The two copies into other devices. -/
def Ocopy (c : Dev nD) : CellTallies nD τ sig Unit := tallyAt (recvXCell (nx c)) () N + tallyAt (recvYCell (ny c)) () N
/-- All of it: the two copies and the two units of the other devices' barrier cells. -/
def O₀ (c : Dev nD) : CellTallies nD τ sig Unit :=
  (Ocopy c + tallyAt (barCell (nx c)) () 1) + tallyAt (barCell (ny c)) () 1

def L (g : GSem nD τ sig) : Finset Unit := if g.1.2 = .tc then {()} else ∅
/-- Barrier cells at 1, first receiving cells at 2, second receiving cells at 3, the rest at 0. -/
def lv (g : GSem nD τ sig) (_ : Unit) : ℕ :=
  if g.2 = .reg barS then 1 else if g.2 = .dma recvY then 2 else if g.2 = .dma recvX then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recvY (c : Dev nD) : lv (recvYCell c) () = 2 := by unfold lv; rw [if_neg recvY_ne_bar, if_pos rfl]
theorem lv_recvX (c : Dev nD) : lv (recvXCell c) () = 3 := by
  unfold lv; rw [if_neg recvX_ne_bar, if_neg recvX_ne_recvY, if_pos rfl]

theorem lv_low (c : Dev nD) (sm : SemLoc sig) (h1 : sm ≠ .reg barS) (h2 : sm ≠ .dma recvY) (h3 : sm ≠ .dma recvX) :
    lv ((c : Thread nD τ), sm) () = 0 := by
  unfold lv; rw [if_neg h1, if_neg h2, if_neg h3]
theorem lv_semA (c : Dev nD) : lv ((c : Thread nD τ), .dma semA.sem) () = 0 :=
  lv_low c _ (by decide +kernel) (by decide +kernel) (by decide +kernel)
theorem lv_semB (c : Dev nD) : lv ((c : Thread nD τ), .dma semB.sem) () = 0 :=
  lv_low c _ (by decide +kernel) (by decide +kernel) (by decide +kernel)
theorem lv_sendY (c : Dev nD) : lv (sendYCell c) () = 0 := lv_low c _ sendY_ne_bar (by decide) (by decide)
theorem lv_sendX (c : Dev nD) : lv (sendXCell c) () = 0 := lv_low c _ sendX_ne_bar (by decide) (by decide)

/-- What is owed to one cell only is owed there. -/
theorem tally_pos {g g' : GSem nD τ sig} {n : ℕ} {u : Unit} (h : 0 < (tallyAt g () n : CellTallies nD τ sig Unit) g' u) : g' = g := by
  rw [tallyAt_apply] at h
  by_contra hne
  rw [if_neg fun e => hne e.1] at h
  exact absurd h (Nat.lt_irrefl 0)
theorem Ocopy_pos {c : Dev nD} {g : GSem nD τ sig} {u : Unit} (h : 0 < Ocopy c g u) : g = recvXCell (nx c) ∨ g = recvYCell (ny c) := by
  unfold Ocopy at h
  rw [Pi.add_apply, Finsupp.add_apply] at h
  exact (Nat.add_pos_iff_pos_or_pos.mp h).imp tally_pos tally_pos
theorem O₀_pos {c : Dev nD} {g : GSem nD τ sig} {u : Unit} (h : 0 < O₀ c g u) :
    ((g = recvXCell (nx c) ∨ g = recvYCell (ny c)) ∨ g = barCell (nx c)) ∨ g = barCell (ny c) := by
  unfold O₀ at h
  rw [Pi.add_apply, Finsupp.add_apply, Pi.add_apply, Finsupp.add_apply] at h
  exact (Nat.add_pos_iff_pos_or_pos.mp h).imp (fun h => (Nat.add_pos_iff_pos_or_pos.mp h).imp Ocopy_pos tally_pos) tally_pos

/-- A cell below everything owed may be waited for. -/
theorem mayWait (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => by unfold L; rw [if_pos (hO g u hg).1]; exact Finset.mem_singleton_self _)
    (fun q hq => by rw [Finset.mem_singleton.mp hq]; exact hn)
    (fun g u hg => (hO g u hg).2)

theorem mayWait_copy (c : Dev nD) (sm : SemLoc sig) (hn : lv ((c : Thread nD τ), sm) () ≤ 1) :
    (levAts L lv : sProp 𝕄) ⊢ MayWait (c : Thread nD τ) sm () (Ocopy c) :=
  mayWait c sm _ 1 hn fun g u h => by
    rcases Ocopy_pos h with rfl | rfl
    · exact ⟨rfl, by rw [lv_recvX]; decide⟩
    · exact ⟨rfl, by rw [lv_recvY]; decide⟩
theorem mayWait_X (c : Dev nD) (sm : SemLoc sig) (hn : lv ((c : Thread nD τ), sm) () ≤ 2) :
    (levAts L lv : sProp 𝕄) ⊢ MayWait (c : Thread nD τ) sm () (tallyAt (recvXCell (nx c)) () N) :=
  mayWait c sm _ 2 hn fun g u h => by
    obtain rfl := tally_pos h
    exact ⟨rfl, by rw [lv_recvX]; decide⟩

/-! ## The ghost state -/

/-- The invariants device `c` opens: its own five cells', the four it pays on other devices'. -/
def invs (K : GSem nD τ sig → ℕ) (c : Dev nD) : sProp 𝕄 :=
  iprop(cellInv ER (exRd p) (K (barCell c)) (barCell c)
    ∗ cellInv ER (exRd p) (K (sendYCell c)) (sendYCell c) ∗ cellInv ER (exRd p) (K (recvYCell c)) (recvYCell c)
    ∗ cellInv ER (exRd p) (K (sendXCell c)) (sendXCell c) ∗ cellInv ER (exRd p) (K (recvXCell c)) (recvXCell c)
    ∗ cellInv ER (exRd p) (K (barCell (ny c))) (barCell (ny c)) ∗ cellInv ER (exRd p) (K (barCell (nx c))) (barCell (nx c))
    ∗ cellInv ER (exRd p) (K (recvYCell (ny c))) (recvYCell (ny c)) ∗ cellInv ER (exRd p) (K (recvXCell (nx c))) (recvXCell (nx c)))
instance invs_persistent (K : GSem nD τ sig → ℕ) (c : Dev nD) : BI.Persistent (invs p K c) := by unfold invs; infer_instance

/-- The tokens of the copies device `c` makes. -/
def copyToks (c : Dev nD) : sProp 𝕄 :=
  iprop(dutyTok ER (sendYCell c) 0 false ∗ dutyTok ER (recvYCell (ny c)) 0 false
    ∗ dutyTok ER (sendXCell c) 0 false ∗ dutyTok ER (recvXCell (nx c)) 0 false)
/-- The tokens of the barrier units device `c` gives: it is `ny` of `ny c` and `nx` of `nx c`. -/
def barToks (c : Dev nD) : sProp 𝕄 :=
  iprop(dutyTok ER (barCell (ny c)) 0 false ∗ dutyTok ER (barCell (nx c)) 0 true)

/-- From the launch to the kernel: the right to open the four copy cells, the barrier cells open. -/
def ghost (K : GSem nD τ sig → ℕ) (c : Dev nD) : sProp 𝕄 :=
  iprop(invs p K c ∗ atPos ER (barCell c) 0 ∅ 0
    ∗ (openTok ER (sendYCell c) ∗ openTok ER (recvYCell c) ∗ openTok ER (sendXCell c) ∗ openTok ER (recvXCell c))
    ∗ (reached ER (barCell (ny c)) 0 ∗ reached ER (barCell (nx c)) 0) ∗ barToks c ∗ copyToks c)

/-- The four copy cells, open and not yet waited for. -/
def copyPos (c : Dev nD) : sProp 𝕄 :=
  iprop(atPos ER (sendYCell c) 0 ∅ 0 ∗ atPos ER (recvYCell c) 0 ∅ 0 ∗ atPos ER (sendXCell c) 0 ∅ 0 ∗ atPos ER (recvXCell c) 0 ∅ 0)
/-- The credit of the two receiving cells. -/
def copyCred (c : Dev nD) : sProp 𝕄 := iprop(cred (tallyAt (recvYCell c) () N) ∗ cred (tallyAt (recvXCell c) () N))

/-- Before the first grid point. -/
def entry (K : GSem nD τ sig → ℕ) (c : Dev nD) : sProp 𝕄 :=
  iprop(invs p K c ∗ atPos ER (barCell c) 0 ∅ 0 ∗ copyPos c
    ∗ (reached ER (barCell (ny c)) 0 ∗ reached ER (barCell (nx c)) 0)
    ∗ (reached ER (sendYCell c) 0 ∗ reached ER (recvYCell c) 0 ∗ reached ER (sendXCell c) 0 ∗ reached ER (recvXCell c) 0)
    ∗ barToks c ∗ copyToks c ∗ cred (tallyAt (barCell c) () 2) ∗ copyCred c)

/-- Between the first and the last grid point: the barrier is past, the other devices' receiving buffers are in hand. -/
def middle (K : GSem nD τ sig → ℕ) (c : Dev nD) : sProp 𝕄 :=
  iprop(invs p K c ∗ semVal (barCell c) 0 ∗ copyPos c
    ∗ (reached ER (sendYCell c) 0 ∗ reached ER (sendXCell c) 0)
    ∗ (reached ER (recvYCell (ny c)) 0 ∗ reached ER (recvXCell (nx c)) 0)
    ∗ copyToks c ∗ copyCred c ∗ pyAny (ny c) ∗ pxAny (nx c))

/-- A cell at the end of its one round is closed: its counter comes back at zero. -/
theorem close (κ : ℕ) (g : GSem nD τ sig) :
    iprop(cellInv ER (exRd p) κ g ∗ atPos ER g (0 + 1) ∅ 0) ⊢ (|={Set.univ}=> semVal g 0 : sProp 𝕄) :=
  Rounds.cell_close ER (exRd p) (Set.mem_univ κ) id (duties_later p g)

end Cert.Proof.Ce

end
-- ==== Proof.Ends.lean ====
/-
  The first and the last grid point: the barrier, the first copies of weight blocks; the two exchanges and the result.
-/
module

public import proofs.«01_k».proof.Proof.Proto

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F]

local notation "𝕄" => MT nD τ sig Unit (Elt F) ℕ UU ℕ

theorem pay_ny (p : Dev nD → Two F) (c : Dev nD) : (exRd p).payload (barCell (ny c)) 0 false
    = iprop((∃ f : Buf (Elt F) (pyM.view.loc (c : Thread nD τ)), pyM.view.loc (c : Thread nD τ) ↦{fullShare} f) ∗ reached ER (recvYCell c) 0) := by
  rw [payload_bar]; unfold barPay pyAny; rw [ny_ny]
theorem pay_nx (p : Dev nD → Two F) (c : Dev nD) : (exRd p).payload (barCell (nx c)) 0 true
    = iprop((∃ f : Buf (Elt F) (pxM.view.loc (c : Thread nD τ)), pxM.view.loc (c : Thread nD τ) ↦{fullShare} f) ∗ reached ER (recvXCell c) 0) := by
  rw [payload_bar]; unfold barPay pxAny; rw [nx_nx]
attribute [local sl_rounds] duties_bar mem_bar amount_bar expect_bar pay_ny pay_nx
section First
variable (p : Dev nD → Two F) (K : GSem nD τ sig → ℕ) (c : Dev nD) (X : Buf (Elt F) (xM.view.loc (c : Thread nD τ)))
  (Lb : Buf (Elt F) (labM.view.loc (c : Thread nD τ))) (Wt : Buf (Elt F) (wM.view.loc (c : Thread nD τ))) (i : grid0.Coords)

/-- What the first grid point starts from besides the ghost state: the inputs, every scratch buffer at anything. -/
def Fresh : sProp 𝕄 :=
  iprop((xM.view.loc (c : Thread nD τ) ↦{fullShare} X) ∗ (labM.view.loc (c : Thread nD τ) ↦{fullShare} Lb)
    ∗ (∃ f : Buf (Elt F) (baM.view.loc (c : Thread nD τ)), baM.view.loc (c : Thread nD τ) ↦{fullShare} f)
    ∗ (∃ f : Buf (Elt F) (bbM.view.loc (c : Thread nD τ)), bbM.view.loc (c : Thread nD τ) ↦{fullShare} f)
    ∗ (∃ f : Buf (Elt F) (sM.view.loc (c : Thread nD τ)), sM.view.loc (c : Thread nD τ) ↦{fullShare} f)
    ∗ (∃ f : Buf (Elt F) (lM.view.loc (c : Thread nD τ)), lM.view.loc (c : Thread nD τ) ↦{fullShare} f)
    ∗ pyAny c ∗ pxAny c ∗ HomeA c Wt ∗ HomeB c Wt ∗ ∃ W, owes (c : Thread nD τ) (O₀ c) W)

set_option maxHeartbeats 800000 in
/-- The first grid point: both neighbours signalled, both waited for, blocks 0 and 1 started, block 0 computed. -/
theorem run_first (hi : (i 0).val + 2 < 8) (h0 : (i 0).val = 0) (h1 : k0_cond1 i = 1#1) (h2 : k0_cond2 i = 1#1) (h3 : k0_cond3 i = 1#1)
    (h4 : ¬ k0_cond4 i = 1#1) (h6 : ¬ k0_cond6 i = 1#1) (Q : PUnit → sProp 𝕄) :
    iprop(entry p K c ∗ levAts L lv ∗ Fresh c X Lb Wt
      ∗ ((middle p K c ∗ Held c X Lb (stAt c X Lb Wt 1) (Ocopy c) ∗ FlyA c Wt 2 ∗ FlyB c Wt 1) -∗ Q ⟨⟩))
    ⊢ wp frame (wpE (defs₀ (F := F)) 𝒱₀ (c : Thread nD τ) none) Set.univ (bodyC i) Q := by
  have hMW := mayWait_copy (F := F) c (SemLoc.dma semA.sem) (by rw [lv_semA]; decide)
  unfold entry Fresh invs copyPos barToks HomeA HomeB pyAny pxAny O₀
  iintro ⟨⟨⟨#HIb, #HIsy, #HIry, #HIsx, #HIrx, #HIby, #HIbx, #HIryN, #HIrxN⟩, HatB, Hpos, ⟨#HrBY, #HrBX⟩, ⟨#HrSY, #HrRY, #HrSX, #HrRX⟩,
    ⟨HtBY, HtBX⟩, Htok, HcB, Hcred⟩, #Hlev, ⟨HX, HL, ⟨%fa, Ha⟩, ⟨%fb, Hb⟩, ⟨%fs, Hs⟩, ⟨%fl, Hl⟩, ⟨%fy, Hpy⟩, ⟨%fx, Hpx⟩,
    ⟨⟨%wa, Hwa⟩, HsA, HWl⟩, ⟨⟨%wb, Hwb⟩, HsB, HWr⟩, ⟨%W, HO⟩⟩, HQ⟩
  have hd1 := dev1_eq c (k0_dev1_lt i c h1)
  have hd2 := dev2_eq c (k0_dev2_lt i c h1)
  have hMB := mayWait_copy (F := F) c (.reg barS) (by rw [lv_bar])
  sl_unfold [bodyC, cc0_body]
  sl_exec (disch := first | exact h1 | exact h2 | exact h3 | exact h4 | exact h6 | exact hi)
  rw [wp_ret]
  imod (close p (K (barCell c)) (barCell c)) $$ [HatB] with Hb0
  · isplitr; · iexact HIb
    iexact HatB
  imodintro
  iapply HQ
  isplitl [Hb0 Hpos Htok Hcred HatB_pay1]
  · unfold middle invs
    ihave Hpay := (Entails.of_eq (show BI.sep ((exRd p).payload (barCell c) 0 false) ((exRd p).payload (barCell c) 0 true)
      = iprop((pyAny (ny c) ∗ reached ER (recvYCell (ny c)) 0) ∗ (pxAny (nx c) ∗ reached ER (recvXCell (nx c)) 0)) from by
        rw [payload_bar, payload_bar]; rfl)) $$ HatB_pay1
    icases Hpay with ⟨⟨HpyN, #HrRYN⟩, ⟨HpxN, #HrRXN⟩⟩
    isplitr
    · isplitr; · iexact HIb
      isplitr; · iexact HIsy
      isplitr; · iexact HIry
      isplitr; · iexact HIsx
      isplitr; · iexact HIrx
      isplitr; · iexact HIby
      isplitr; · iexact HIbx
      isplitr; · iexact HIryN
      iexact HIrxN
    isplitl [Hb0]; · iexact Hb0
    isplitl [Hpos]; · unfold copyPos; iexact Hpos
    isplitr
    · isplitr; · iexact HrSY
      iexact HrSX
    isplitr
    · isplitr; · iexact HrRYN
      iexact HrRXN
    isplitl [Htok]; · iexact Htok
    isplitl [Hcred]; · iexact Hcred
    isplitl [HpyN]; · iexact HpyN
    iexact HpxN
  isplitl [HX HL Ha Hb Hs Hl HO]
  · unfold Held
    iapply (held_of c X Lb (stAt c X Lb Wt 1) (Ocopy c) ?_ ?_ ?_) $$ [HX HL Ha Hb Hs Hl HO]
    pick_goal 4
    · isplitl [HX]; · iexact HX
      isplitl [HL]; · iexact HL
      isplitl [Ha]; · iexact Ha
      isplitl [Hb]; · iexact Hb
      isplitl [Hs]; · iexact Hs
      isplitl [Hl]; · iexact Hl
      iexact HO
    all_goals
      refine (writes_top _ _ _ _ _).trans ?_
      sl_unfold_run_names
      simp (config := {proj := false}) only [readAt_win, readCov_win, window_full, read_x, read_lab, read_wa, read_wb, read_ba,
        read_bb, read_s, read_l, chunk0_eq, chunk1_eq, chunk2_eq, chunk3_eq, left_eq, right_eq, procS_first, procL_first, procS_second,
        procL_second, wordY_eq, wordCol_eq, landedA, h0]
      rfl
  isplitl [HsA HWl]
  · rw [show FlyA c Wt 2 = FlyA c Wt ((i 0).val + 2) from by rw [h0]]
    unfold FlyA
    irw [← landedA c Wt ((i 0).val + 2) (View.write (Elt F) waM.view wa ((wblk c 0).view.read (Elt F) Wt) Finset.univ)]
    isplitl [HsA]; · iexact HsA
    iexact HWl
  unfold FlyB
  irw [← landedB c Wt 1 wb]
  isplitl [HsB]; · iexact HsB
  iexact HWr

end First

/-! ## The exchanged columns -/

omit [FloatOps F] in
theorem read_part (f) : View.read (Elt F) partM.view f = f := View.read_whole _ _
omit [FloatOps F] in
theorem read_py (f) : View.read (Elt F) pyM.view f = f := View.read_whole _ _
omit [FloatOps F] in
theorem read_px (f) : View.read (Elt F) pxM.view f = f := View.read_whole _ _

/-- Two columns stored are the two columns read. -/
theorem cols_writes (f0 : FVec F S1024x8 .f32) (a b : FVec F S1024x1 .f32) (t : Two F) (h : (⟨a, b⟩ : Two F) = t) (ib ia) :
    Cols (partM.view.writes (Elt F) f0 [⟨Rect.unit ![0, 1] S1024x1.size ib, b⟩, ⟨Rect.unit ![0, 0] S1024x1.size ia, a⟩]) t := by
  subst h
  unfold Cols
  rw [← read_part (partM.view.writes (Elt F) f0 _), View.read_writes_cons_put _ _ _ _ _ rfl, View.read_writes_cons_put _ _ _ _ _ rfl]
  exact ⟨(VecWindow.window_put_of_disjoint _ _ _ _ _ _ _ (1 : Fin 2) (Or.inl (Nat.le_refl 1))).trans (VecWindow.window_put_same _ _ _ _ _),
    VecWindow.window_put_same _ _ _ _ _⟩

/-- The exchange buffer after its two columns are stored. -/
theorem part_intro (c : Dev nD) (f0 : Buf (Elt F) (partM.view.loc (c : Thread nD τ))) (a b : FVec F S1024x1 .f32) (t : Two F)
    (h : (⟨a, b⟩ : Two F) = t) (ib ia) :
    (iprop(partM.view.loc (c : Thread nD τ) ↦{fullShare} (partM.view.writes (Elt F) f0
      [⟨Rect.unit ![0, 1] S1024x1.size ib, b⟩, ⟨Rect.unit ![0, 0] S1024x1.size ia, a⟩] : Buf (Elt F) (partM.view.loc (c : Thread nD τ)))) : sProp 𝕄)
      ⊢ partAt c t := by
  unfold partAt
  iintro H
  iexists _
  isplitr
  · ipureintro; exact cols_writes f0 a b t h ib ia
  iexact H

/-- The sent buffer pays the sender's own cell. -/
theorem sentY (p : Dev nD → Two F) (c : Dev nD) (f : Buf (Elt F) (partM.view.loc (c : Thread nD τ))) (h : Cols f (p c)) :
    (iprop(partM.view.loc (c : Thread nD τ) ↦[partM.view.set]{fullShare} f) : sProp 𝕄) ⊢ (exRd p).payload (sendYCell c) 0 false := by
  rw [payload_sendY, View.set_whole]; unfold partAt
  iintro H; iexists f; isplitr; · ipureintro; exact h
  iexact H
theorem sentX (p : Dev nD → Two F) (c : Dev nD) (f : Buf (Elt F) (partM.view.loc (c : Thread nD τ))) (h : Cols f (plusY p c)) :
    (iprop(partM.view.loc (c : Thread nD τ) ↦[partM.view.set]{fullShare} f) : sProp 𝕄) ⊢ (exRd p).payload (sendXCell c) 0 false := by
  rw [payload_sendX, View.set_whole]; unfold partAt
  iintro H; iexists f; isplitr; · ipureintro; exact h
  iexact H
/-- What landed pays the receiver's cell. -/
theorem landedY (p : Dev nD → Two F) (c : Dev nD) (f : Buf (Elt F) (partM.view.loc (c : Thread nD τ))) (h : Cols f (p c))
    (d : Dev nD) (hd : d = ny c) (g : Buf (Elt F) (pyM.view.loc (d : Thread nD τ))) :
    (iprop(pyM.view.loc (d : Thread nD τ) ↦[pyM.view.set]{fullShare} (View.write (Elt F) pyM.view g (partM.view.read (Elt F) f) Finset.univ)) : sProp 𝕄)
      ⊢ (exRd p).payload (recvYCell d) 0 false := by
  subst hd
  have e : View.write (Elt F) pyM.view g (partM.view.read (Elt F) f) Finset.univ = (f : FVec F S1024x8 .f32) :=
    (View.write_whole_univ _ _ _).trans (View.read_whole _ _)
  rw [payload_recvY, View.set_whole, e]; unfold pyAt; rw [ny_ny]
  iintro H; iexists f; isplitr; · ipureintro; exact h
  iexact H
theorem landedX (p : Dev nD → Two F) (c : Dev nD) (f : Buf (Elt F) (partM.view.loc (c : Thread nD τ))) (h : Cols f (plusY p c))
    (d : Dev nD) (hd : d = nx c) (g : Buf (Elt F) (pxM.view.loc (d : Thread nD τ))) :
    (iprop(pxM.view.loc (d : Thread nD τ) ↦[pxM.view.set]{fullShare} (View.write (Elt F) pxM.view g (partM.view.read (Elt F) f) Finset.univ)) : sProp 𝕄)
      ⊢ (exRd p).payload (recvXCell d) 0 false := by
  subst hd
  have e : View.write (Elt F) pxM.view g (partM.view.read (Elt F) f) Finset.univ = (f : FVec F S1024x8 .f32) :=
    (View.write_whole_univ _ _ _).trans (View.read_whole _ _)
  rw [payload_recvX, View.set_whole, e]; unfold pxAt; rw [nx_nx]
  iintro H; iexists f; isplitr; · ipureintro; exact h
  iexact H

/-- A program that has returned goes on with what follows it. -/
theorem ret_then.{v} {E : Type → Type v} {α β : Type} (a : α) (k : α → Prog E β) : Prog.bind (Prog.ret a) k = k a := rfl

section Last
variable (p : Dev nD → Two F) (K : GSem nD τ sig → ℕ) (c : Dev nD) (X : Buf (Elt F) (xM.view.loc (c : Thread nD τ)))
  (Lb : Buf (Elt F) (labM.view.loc (c : Thread nD τ))) (Wt : Buf (Elt F) (wM.view.loc (c : Thread nD τ))) (i : grid0.Coords)

/-- What the last grid point ends with: every semaphore of the exchange at zero, the inputs, the result, every scratch
    buffer it used at anything, nothing owed. -/
def Done : sProp 𝕄 :=
  iprop((semVal (barCell c) 0 ∗ semVal (sendYCell c) 0 ∗ semVal (recvYCell c) 0 ∗ semVal (sendXCell c) 0 ∗ semVal (recvXCell c) 0)
    ∗ (xM.view.loc (c : Thread nD τ) ↦{fullShare} X) ∗ (labM.view.loc (c : Thread nD τ) ↦{fullShare} Lb)
    ∗ (∃ f : Buf (Elt F) (baM.view.loc (c : Thread nD τ)), baM.view.loc (c : Thread nD τ) ↦{fullShare} f)
    ∗ (∃ f : Buf (Elt F) (bbM.view.loc (c : Thread nD τ)), bbM.view.loc (c : Thread nD τ) ↦{fullShare} f)
    ∗ (∃ f : Buf (Elt F) (sM.view.loc (c : Thread nD τ)), sM.view.loc (c : Thread nD τ) ↦{fullShare} f)
    ∗ (∃ f : Buf (Elt F) (lM.view.loc (c : Thread nD τ)), lM.view.loc (c : Thread nD τ) ↦{fullShare} f)
    ∗ partAny c ∗ pyAny c ∗ pxAny c
    ∗ (outM.view.loc (c : Thread nD τ) ↦{fullShare} (result p c : Buf (Elt F) (outM.view.loc (c : Thread nD τ))))
    ∗ ∃ W, owes (c : Thread nD τ) 0 W)

set_option maxHeartbeats 800000 in
/-- The last grid point: the last tile summed, the two sums exchanged with one neighbour and then the other, the result stored. -/
theorem run_last (u : St F) (hp : p c = ⟨fin1 c u, fin2 c Lb u⟩) (h1 : ¬ k0_cond1 i = 1#1) (h2 : ¬ k0_cond2 i = 1#1)
    (h4 : ¬ k0_cond4 i = 1#1) (h6 : k0_cond6 i = 1#1) (Q : PUnit → sProp 𝕄) :
    iprop(middle p K c ∗ levAts L lv ∗ Held c X Lb u (Ocopy c) ∗ partAny c
      ∗ (∃ f : Buf (Elt F) (outM.view.loc (c : Thread nD τ)), outM.view.loc (c : Thread nD τ) ↦{fullShare} f)
      ∗ (Done p c X Lb -∗ Q ⟨⟩))
    ⊢ wp frame (wpE (defs₀ (F := F)) 𝒱₀ (c : Thread nD τ) none) Set.univ (bodyC i) Q := by
  unfold middle Held invs copyPos copyToks copyCred pyAny pxAny partAny
  iintro ⟨⟨⟨#HIb, #HIsy, #HIry, #HIsx, #HIrx, #HIby, #HIbx, #HIryN, #HIrxN⟩, Hb0, ⟨HaSY, HaRY, HaSX, HaRX⟩, ⟨#HrSY, #HrSX⟩,
    ⟨#HrRYN, #HrRXN⟩, ⟨HtSY, HtRY, HtSX, HtRX⟩, ⟨HcY, HcX⟩, ⟨%fyN, HpyN⟩, ⟨%fxN, HpxN⟩⟩, #Hlev,
    ⟨HX, HL, ⟨%fa, Ha⟩, Hb, Hs, Hl, ⟨%W, HO⟩⟩, ⟨%f0, Hp⟩, ⟨%fo, Ho⟩, HQ⟩
  sl_unfold [bodyC, cc0_body]
  sl_exec (disch := first | exact h1 | exact h2 | exact h4 | exact h6)
  ihave Hp := (part_intro c _ _ _ (p c) ?_ _ _) $$ Hp
  · rw [hp]
    sl_unfold_run_names
    simp (config := {proj := false}) only [readAt_win, readCov_win, window_full, read_x, read_lab, read_wa, read_wb, read_ba,
      read_bb, read_s, read_l, chunk0_eq, chunk1_eq, chunk2_eq, chunk3_eq, procS_first, procL_first, procS_second, procL_second,
      wordY_eq, wordCol_eq]
    rfl
  unfold partAt
  icases Hp with ⟨%f1, %hf1, Hp⟩
  have hd3 := dev3_eq c (k0_dev3_lt i c h6)
  have hd4 := dev4_eq c (k0_dev4_lt i c h6)
  iapply (Rounds.wp_send_pointsTo 𝒱₀ ER (exRd p) (c : Thread nD τ) none (c' := ((⟨k0_dev3 c, k0_dev3_lt i c h6⟩ : Dev nD) : Thread nD τ))
      (src := partM) (dst := pyM)
      (sS := .dma sendY) (sem := .dma recvY) (q := fullShare) (fs := f1) (κ₁ := K (sendYCell c)) (κ₂ := K (recvYCell (ny c)))
      (r₁ := 0) (r₂ := 0) (d₁ := false) (d₂ := false) (fd := fyN)
      (mem_copy p c sendY (copy_sendY c)) (mem_copy p _ recvY (copy_recvY _))
      () () N rfl (amount_copy p c sendY false) (amount_copy p _ recvY false) (tallyAt (recvXCell (nx c)) () N)
      (by rw [hd3]) (W := W)
      (sentY p c f1 hf1) (landedY p c f1 hf1 _ hd3 fyN)) $$ [Hp HpyN HO HtSY HtRY]
  · rw [hd3]
    isplitr; · iexact HIsy
    isplitr; · iexact HIryN
    isplitl [Hp]; · rw [View.set_whole]; iexact Hp
    isplitl [HpyN]; · rw [View.set_whole]; iexact HpyN
    isplitl [HO]; · iexact HO
    isplitl [HtSY]; · iexact HtSY
    isplitr; · iexact HrSY
    isplitl [HtRY]; · iexact HtRY
    iexact HrRYN
  iintro ⟨HcS, HO⟩
  iapply (Rounds.wp_wait_rest_token 𝒱₀ ER (exRd p) (c : Thread nD τ) none (κ := K (sendYCell c))
      (wpE_waitDma2_eq (src := pyM) (dst := partM) 𝒱₀ (c : Thread nD τ) none Set.univ) (Set.mem_univ _) () (O := tallyAt (recvXCell (nx c)) () N)
      (W := W) (R := 0) (m := 0) (T := ∅)
      ((Nat.zero_add _).trans (expect_copy p c sendY (copy_sendY c)).symm)) $$ [HcS HO HaSY]
  · isplitr; · iexact HIsy
    isplitl [HcS]; · iexact HcS
    isplitl [HO]; · iexact HO
    isplitr; · iapply (mayWait_X c (.dma sendY) (by rw [lv_sendY]; decide)); iexact Hlev
    iexact HaSY
  iintro ⟨HO, HaSY, -, Hp⟩
  ihave Hp := (Entails.of_eq ((rest_copy p c sendY (copy_sendY c)).trans (payload_sendY p c false))) $$ Hp
  iapply (Rounds.wp_wait_rest_token 𝒱₀ ER (exRd p) (c : Thread nD τ) none (κ := K (recvYCell c))
      (wpE_waitDma2_eq (src := partM) (dst := pyM) 𝒱₀ (c : Thread nD τ) none Set.univ) (Set.mem_univ _) () (O := tallyAt (recvXCell (nx c)) () N)
      (W := insert (SemLoc.dma sendY, ()) W) (R := 0) (m := 0) (T := ∅)
      ((Nat.zero_add _).trans (expect_copy p c recvY (copy_recvY c)).symm)) $$ [HcY HO HaRY]
  · isplitr; · iexact HIry
    isplitl [HcY]; · iexact HcY
    isplitl [HO]; · iexact HO
    isplitr; · iapply (mayWait_X c (.dma recvY) (by rw [lv_recvY])); iexact Hlev
    iexact HaRY
  iintro ⟨HO, HaRY, -, Hpy⟩
  ihave Hpy := (Entails.of_eq ((rest_copy p c recvY (copy_recvY c)).trans (payload_recvY p c false))) $$ Hpy
  unfold partAt pyAt
  icases Hp with ⟨%f2, %hf2, Hp⟩
  icases Hpy with ⟨%fy, %hfy, Hpy⟩
  rw [ret_then]
  sl_exec
  ihave Hp := (part_intro c _ _ _ (plusY p c) ?_ _ _) $$ Hp
  · unfold plusY
    rw [← hf2.1, ← hf2.2, ← hfy.1, ← hfy.2]
    sl_unfold_run_names
    simp (config := {proj := false}) only [readAt_win, read_part, read_py]
  unfold partAt
  icases Hp with ⟨%f3, %hf3, Hp⟩
  iapply (Rounds.wp_send_pointsTo 𝒱₀ ER (exRd p) (c : Thread nD τ) none (c' := (nx c : Thread nD τ))
      (src := partM) (dst := pxM)
      (sS := .dma sendX) (sem := .dma recvX) (q := fullShare) (fs := f3) (κ₁ := K (sendXCell c)) (κ₂ := K (recvXCell (nx c)))
      (r₁ := 0) (r₂ := 0) (d₁ := false) (d₂ := false) (fd := fxN)
      (mem_copy p c sendX (copy_sendX c)) (mem_copy p _ recvX (copy_recvX _))
      () () N rfl (amount_copy p c sendX false) (amount_copy p _ recvX false) 0 (zero_add _).symm
      (W := insert (SemLoc.dma recvY, ()) (insert (SemLoc.dma sendY, ()) W))
      (sentX p c f3 hf3) (landedX p c f3 hf3 _ rfl fxN)) $$ [Hp HpxN HO HtSX HtRX]
  · isplitr; · iexact HIsx
    isplitr; · iexact HIrxN
    isplitl [Hp]; · rw [View.set_whole]; iexact Hp
    isplitl [HpxN]; · rw [View.set_whole]; iexact HpxN
    isplitl [HO]; · iexact HO
    isplitl [HtSX]; · iexact HtSX
    isplitr; · iexact HrSX
    isplitl [HtRX]; · iexact HtRX
    iexact HrRXN
  iintro ⟨HcS, HO⟩
  iapply (Rounds.wp_wait_rest_token 𝒱₀ ER (exRd p) (c : Thread nD τ) none (κ := K (sendXCell c))
      (wpE_waitDma2_eq (src := pxM) (dst := partM) 𝒱₀ (c : Thread nD τ) none Set.univ) (Set.mem_univ _) () (O := 0)
      (W := insert (SemLoc.dma recvY, ()) (insert (SemLoc.dma sendY, ()) W)) (R := 0) (m := 0) (T := ∅)
      ((Nat.zero_add _).trans (expect_copy p c sendX (copy_sendX c)).symm)) $$ [HcS HO HaSX]
  · isplitr; · iexact HIsx
    isplitl [HcS]; · iexact HcS
    isplitl [HO]; · iexact HO
    isplitr; · rw [MayWait_zero]; iempintro
    iexact HaSX
  iintro ⟨HO, HaSX, -, Hp⟩
  ihave Hp := (Entails.of_eq ((rest_copy p c sendX (copy_sendX c)).trans (payload_sendX p c false))) $$ Hp
  iapply (Rounds.wp_wait_rest_token 𝒱₀ ER (exRd p) (c : Thread nD τ) none (κ := K (recvXCell c))
      (wpE_waitDma2_eq (src := partM) (dst := pxM) 𝒱₀ (c : Thread nD τ) none Set.univ) (Set.mem_univ _) () (O := 0)
      (W := insert (SemLoc.dma sendX, ()) (insert (SemLoc.dma recvY, ()) (insert (SemLoc.dma sendY, ()) W))) (R := 0) (m := 0) (T := ∅)
      ((Nat.zero_add _).trans (expect_copy p c recvX (copy_recvX c)).symm)) $$ [HcX HO HaRX]
  · isplitr; · iexact HIrx
    isplitl [HcX]; · iexact HcX
    isplitl [HO]; · iexact HO
    isplitr; · rw [MayWait_zero]; iempintro
    iexact HaRX
  iintro ⟨HO, HaRX, -, Hpx⟩
  ihave Hpx := (Entails.of_eq ((rest_copy p c recvX (copy_recvX c)).trans (payload_recvX p c false))) $$ Hpx
  unfold partAt pxAt
  icases Hp with ⟨%f4, %hf4, Hp⟩
  icases Hpx with ⟨%fx, %hfx, Hpx⟩
  rw [ret_then]
  sl_exec
  rw [wp_ret]
  imod (close p (K (sendYCell c)) (sendYCell c)) $$ [HaSY] with HaSY
  · isplitr; · iexact HIsy
    iexact HaSY
  imod (close p (K (recvYCell c)) (recvYCell c)) $$ [HaRY] with HaRY
  · isplitr; · iexact HIry
    iexact HaRY
  imod (close p (K (sendXCell c)) (sendXCell c)) $$ [HaSX] with HaSX
  · isplitr; · iexact HIsx
    iexact HaSX
  imod (close p (K (recvXCell c)) (recvXCell c)) $$ [HaRX] with HaRX
  · isplitr; · iexact HIrx
    iexact HaRX
  imodintro
  iapply HQ
  unfold Done partAny pyAny pxAny
  isplitl [Hb0 HaSY HaRY HaSX HaRX]
  · isplitl [Hb0]; · iexact Hb0
    isplitl [HaSY]; · iexact HaSY
    isplitl [HaRY]; · iexact HaRY
    isplitl [HaSX]; · iexact HaSX
    iexact HaRX
  isplitl [HX]; · iexact HX
  isplitl [HL]; · iexact HL
  isplitl [Ha]; · iexists _; iexact Ha
  isplitl [Hb]; · iexists _; iexact Hb
  isplitl [Hs]; · iexists _; iexact Hs
  isplitl [Hl]; · iexists _; iexact Hl
  isplitl [Hp]; · iexists _; iexact Hp
  isplitl [Hpy]; · iexists _; iexact Hpy
  isplitl [Hpx]; · iexists _; iexact Hpx
  isplitl [Ho]
  · iapply (pts_eq ?_) $$ Ho
    refine (writes_top _ _ _ _ _).trans ?_
    unfold result
    rw [← hf4.1, ← hf4.2, ← hfx.1, ← hfx.2]
    sl_unfold_run_names
    simp (config := {proj := false}) only [readAt_win, read_part, read_px]
    rfl
  iexists _; iexact HO
end Last
end Cert.Proof.Ce
end
-- ==== Proof.Body.lean ====
/-
  The proof data of the pipeline on one device, and its body obligation: what the device holds before each grid point,
  what it owes there, and that the body takes it from one point to the next.
-/
module

public import proofs.«01_k».proof.Proof.Ends
public import proofs.«01_k».proof.Proof.Gen.KernelIdeal.Frame

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (window)

variable {F : FTy → Type} [FloatOps F]

local notation "𝕄" => MT nD τ sig Unit (Elt F) ℕ UU ℕ

/-! ## The conditions of the body at each grid point -/

theorem coord_eq : ∀ t : Fin grid0.N, ((grid0.coords t) 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ (t.val < 8 ∧ t.val % 2 = 0) := by decide +kernel
theorem cond3_iff : ∀ t : Fin grid0.N, k0_cond3 (grid0.coords t) = 1#1 ↔ t.val + 2 < 8 := by decide +kernel
theorem cond4_iff : ∀ t : Fin grid0.N, k0_cond4 (grid0.coords t) = 1#1 ↔ (t.val < 8 ∧ t.val % 2 = 1) := by decide +kernel
theorem cond5_iff : ∀ t : Fin grid0.N, k0_cond5 (grid0.coords t) = 1#1 ↔ t.val + 2 < 8 := by decide +kernel
theorem cond6_iff : ∀ t : Fin grid0.N, k0_cond6 (grid0.coords t) = 1#1 ↔ t.val = 8 := by decide +kernel
/-- The result's window is touched at the last point only. -/
theorem idle_out : ∀ t : Fin grid0.N, t.val ≠ 8 → cfg0.idle 2 (grid0.coords t) = true := by decide +kernel
theorem live_out : ∀ t : Fin grid0.N, t.val = 8 → cfg0.idle 2 (grid0.coords t) = false := by decide +kernel
theorem kept_out (t : Fin cfg0.N) (h : t.val ≠ 8) : (cfg0.win 2).flush t = false := by
  have h9 : t.val < 9 := by have := t.isLt; exact lt_of_lt_of_eq this N_0
  refine Bool.eq_false_iff.mpr fun hf => ?_
  have := (flush0_2 t).mp hf
  omega

/-! ## The contents -/

section Contents
variable (m : (ℓ : Loc nD τ sig) → Buf (Elt F) ℓ) (c : Dev nD)

/-- What a device's kernel reads: the activations, the labels as a column, its half of the weights. -/
def X : Buf (Elt F) (xM.view.loc (c : Thread nD τ)) := V m c main_arg0
def Lb : Buf (Elt F) (labM.view.loc (c : Thread nD τ)) := V m c main_v1
def Wt : Buf (Elt F) (wM.view.loc (c : Thread nD τ)) := V m c main_arg1

/-- The buffers of device `c` before grid point `n`. -/
def stm (n : ℕ) : St F := stAt c (X m c) (Lb m c) (Wt m c) n
/-- Each device's own two sums. -/
def sums (c : Dev nD) : Two F := ⟨fin1 c (stm m c 8), fin2 c (Lb m c) (stm m c 8)⟩

theorem iblk_x (t : Fin cfg0.N) : (iblk m c 0 t : FVec F S1024x2048 .f32) = X m c := by
  funext y
  unfold iblk X
  refine congrArg (V m c main_arg0) ?_
  funext a
  apply Fin.ext
  fin_cases a
  · show 0 + 1 * (y 0).val = (y 0).val; omega
  · show 0 + 1 * (y 1).val = (y 1).val; omega
theorem iblk_lab (t : Fin cfg0.N) : (iblk m c 1 t : IVec S1024x1 32) = Lb m c := by
  funext y
  unfold iblk Lb
  refine congrArg (V m c main_v1) ?_
  funext a
  apply Fin.ext
  fin_cases a
  · show 0 + 1 * (y 0).val = (y 0).val; omega
  · show 0 + 1 * (y 1).val = (y 1).val; omega

end Contents

theorem owns_x (c : Dev nD) (t : Fin cfg0.N) (Y : FVec F S1024x2048 .f32) :
    (owns (c : Thread nD τ) ((cfg0.win 0).stage (cfg0.slots t 0)) fullShare Y : sProp 𝕄)
      = iprop(xM.view.loc (c : Thread nD τ) ↦{fullShare} (Y : Buf (Elt F) (xM.view.loc (c : Thread nD τ)))) := by
  rw [show cfg0.slots t 0 = (0 : Fin 1) from Fin.ext (slots_zero t 0 rfl)]
  exact owns_whole (Val := Elt F) (c : Thread nD τ) cc0_stg0_0 fullShare Y
theorem owns_lab (c : Dev nD) (t : Fin cfg0.N) (Y : IVec S1024x1 32) :
    (owns (c : Thread nD τ) ((cfg0.win 1).stage (cfg0.slots t 1)) fullShare Y : sProp 𝕄)
      = iprop(labM.view.loc (c : Thread nD τ) ↦{fullShare} (Y : Buf (Elt F) (labM.view.loc (c : Thread nD τ)))) := by
  rw [show cfg0.slots t 1 = (0 : Fin 1) from Fin.ext (slots_zero t 1 rfl)]
  exact owns_whole (Val := Elt F) (c : Thread nD τ) cc0_stg1_0 fullShare Y
theorem owns_out (c : Dev nD) (t : Fin cfg0.N) (Y : FVec F S1024x1 .f32) :
    (owns (c : Thread nD τ) ((cfg0.win 2).stage (cfg0.slots t 2)) fullShare Y : sProp 𝕄)
      = iprop(outM.view.loc (c : Thread nD τ) ↦{fullShare} (Y : Buf (Elt F) (outM.view.loc (c : Thread nD τ)))) := by
  rw [show cfg0.slots t 2 = (0 : Fin 1) from Fin.ext (slots_zero t 2 rfl)]
  exact owns_whole (Val := Elt F) (c : Thread nD τ) cc0_stg2_0 fullShare Y

/-! ## The invariant -/

section Inv
variable (m : (ℓ : Loc nD τ sig) → Buf (Elt F) ℓ) (c : Dev nD)

/-- Block `b` on its way into its weight buffer if there is such a block, the buffer at rest if not. -/
def wayA (b : ℕ) : sProp 𝕄 := if b < 8 then FlyA c (Wt m c) b else HomeA c (Wt m c)
def wayB (b : ℕ) : sProp 𝕄 := if b < 8 then FlyB c (Wt m c) b else HomeB c (Wt m c)
/-- The two weight buffers before grid point `n`. -/
def way (n : ℕ) : sProp 𝕄 := if n % 2 = 0 then iprop(wayA m c n ∗ wayB m c (n + 1)) else iprop(wayB m c n ∗ wayA m c (n + 1))

/-- The tile buffers and the two accumulators at anything. -/
def tilesAny : sProp 𝕄 :=
  iprop((∃ f : Buf (Elt F) (baM.view.loc (c : Thread nD τ)), baM.view.loc (c : Thread nD τ) ↦{fullShare} f)
    ∗ (∃ f : Buf (Elt F) (bbM.view.loc (c : Thread nD τ)), bbM.view.loc (c : Thread nD τ) ↦{fullShare} f)
    ∗ (∃ f : Buf (Elt F) (sM.view.loc (c : Thread nD τ)), sM.view.loc (c : Thread nD τ) ↦{fullShare} f)
    ∗ (∃ f : Buf (Elt F) (lM.view.loc (c : Thread nD τ)), lM.view.loc (c : Thread nD τ) ↦{fullShare} f))
/-- The same with the second tile buffer and the accumulators at `u`. -/
def tilesAt (u : St F) : sProp 𝕄 :=
  iprop((∃ f : Buf (Elt F) (baM.view.loc (c : Thread nD τ)), baM.view.loc (c : Thread nD τ) ↦{fullShare} f)
    ∗ (bbM.view.loc (c : Thread nD τ) ↦{fullShare} u.b)
    ∗ (sM.view.loc (c : Thread nD τ) ↦{fullShare} u.s) ∗ (lM.view.loc (c : Thread nD τ) ↦{fullShare} u.l))
/-- The exchange's semaphores of device `c` at zero. -/
def semsZero : sProp 𝕄 :=
  iprop(semVal (barCell c) 0 ∗ semVal (sendYCell c) 0 ∗ semVal (recvYCell c) 0 ∗ semVal (sendXCell c) 0 ∗ semVal (recvXCell c) 0)

/-- Before the first grid point, between two, after the last. -/
def PhiFirst : sProp 𝕄 :=
  iprop((∃ K, entry (sums m) K c) ∗ levAts L lv ∗ tilesAny c ∗ partAny c ∗ pyAny c ∗ pxAny c
    ∗ HomeA c (Wt m c) ∗ HomeB c (Wt m c) ∗ ∃ r, prngReg c r)
def PhiMid (n : ℕ) : sProp 𝕄 :=
  iprop((∃ K, middle (sums m) K c) ∗ levAts L lv ∗ tilesAt c (stm m c n) ∗ partAny c ∗ way m c n ∗ ∃ r, prngReg c r)
def PhiLast : sProp 𝕄 :=
  iprop(semsZero c ∗ tilesAny c ∗ partAny c ∗ pyAny c ∗ pxAny c
    ∗ HomeA c (Wt m c) ∗ HomeB c (Wt m c) ∗ ∃ r, prngReg c r)
def Phi (n : ℕ) : sProp 𝕄 := if n = 0 then PhiFirst m c else if n < 9 then PhiMid m c n else PhiLast m c
/-- What is owed before grid point `n`. -/
def owedAt (n : ℕ) : CellTallies nD τ sig Unit := if n = 0 then O₀ c else if n < 9 then Ocopy c else 0

/-- The proof data: the inputs' windows at their blocks, the result's at the result. -/
def dat : Dat τ (Elt F) Unit ℕ UU ℕ cfg0 c where
  A w := V m c (Pipeline.arrRef spec0 w)
  after w t := match w with
    | 0 => iblk m c 0 t
    | 1 => iblk m c 1 t
    | 2 => result (sums m) c
    | ⟨_ + 3, h⟩ => absurd h (Nat.not_lt.2 (Nat.le_add_left _ _))
  Φ t := Phi m c t.val
  q _ := fullShare
  owed t := owedAt c t.val

theorem before_x (t : Fin cfg0.N) (d) : (dat m c).before 0 t d = iblk m c 0 t :=
  ((dat m c).before_in_eq_fetched 0 rfl (fun _ => rfl) (fun _ _ _ => rfl) (fun t => by unfold Dat.blockOf; rfl) t d).trans
    (by unfold Dat.fetched Dat.blockOf; rfl)
theorem before_lab (t : Fin cfg0.N) (d) : (dat m c).before 1 t d = iblk m c 1 t :=
  ((dat m c).before_in_eq_fetched 1 rfl (fun _ => rfl) (fun _ _ _ => rfl) (fun t => by unfold Dat.blockOf; rfl) t d).trans
    (by unfold Dat.fetched Dat.blockOf; rfl)

theorem Phi_first : Phi m c 0 = PhiFirst m c := if_pos rfl
theorem Phi_mid (n : ℕ) (h0 : n ≠ 0) (h9 : n < 9) : Phi m c n = PhiMid m c n := by unfold Phi; rw [if_neg h0, if_pos h9]
theorem Phi_last : Phi m c 9 = PhiLast m c := by unfold Phi; rw [if_neg (by decide), if_neg (by decide)]
omit [FloatOps F] in
theorem owed_first : owedAt c 0 = O₀ c := if_pos rfl
theorem owed_mid (n : ℕ) (h0 : n ≠ 0) (h9 : n < 9) : owedAt c n = Ocopy c := by unfold owedAt; rw [if_neg h0, if_pos h9]
theorem owed_last : owedAt c 9 = 0 := by unfold owedAt; rw [if_neg (by decide), if_neg (by decide)]

theorem way_even (n : ℕ) (h : n % 2 = 0) : way m c n = iprop(wayA m c n ∗ wayB m c (n + 1)) := if_pos h
theorem way_odd (n : ℕ) (h : n % 2 = 1) : way m c n = iprop(wayB m c n ∗ wayA m c (n + 1)) := if_neg (by omega)
theorem wayA_fly (b : ℕ) (h : b < 8) : wayA m c b = FlyA c (Wt m c) b := if_pos h
theorem wayB_fly (b : ℕ) (h : b < 8) : wayB m c b = FlyB c (Wt m c) b := if_pos h
theorem wayA_home (b : ℕ) (h : ¬ b < 8) : wayA m c b = HomeA c (Wt m c) := if_neg h
theorem wayB_home (b : ℕ) (h : ¬ b < 8) : wayB m c b = HomeB c (Wt m c) := if_neg h

end Inv

/-! ## The middle points, the four cases in one -/

section Mid
variable (m : (ℓ : Loc nD τ sig) → Buf (Elt F) ℓ) (c : Dev nD) (t : Fin cfg0.N)

/-- A grid point from 1 to 7: one block awaited, its two tiles computed, the next block for that buffer started if there is one. -/
theorem run_mid (h0 : t.val ≠ 0) (h8 : t.val < 8) (Q : PUnit → sProp 𝕄) :
    iprop(Held c (X m c) (Lb m c) (stm m c t.val) (Ocopy c) ∗ way m c t.val ∗ levAts L lv
      ∗ ((Held c (X m c) (Lb m c) (stm m c (t.val + 1)) (Ocopy c) ∗ way m c (t.val + 1)) -∗ Q ⟨⟩))
    ⊢ wp frame (wpE (defs₀ (F := F)) 𝒱₀ (c : Thread nD τ) none) Set.univ (bodyC (grid0.coords t)) Q := by
  have hn : t.val = ((grid0.coords t) 0).val := (coord_eq t).symm
  have h1 : ¬ k0_cond1 (grid0.coords t) = 1#1 := fun h => h0 ((cond1_iff t).mp h)
  have h6 : ¬ k0_cond6 (grid0.coords t) = 1#1 := fun h => by have := (cond6_iff t).mp h; omega
  have hst : stm m c (t.val + 1) = step c t.val (X m c) (Lb m c) (wcont c t.val (Wt m c)) (stm m c t.val) := rfl
  have hA := mayWait_copy (F := F) c (SemLoc.dma semA.sem) (by rw [lv_semA]; decide)
  have hB := mayWait_copy (F := F) c (SemLoc.dma semB.sem) (by rw [lv_semB]; decide)
  rw [hst]
  rcases Nat.mod_two_eq_zero_or_one t.val with hp | hp
  · have h2 := (cond2_iff t).mpr ⟨h8, hp⟩
    have h4 : ¬ k0_cond4 (grid0.coords t) = 1#1 := fun h => by have := (cond4_iff t).mp h; omega
    rw [way_even m c t.val hp, way_odd m c (t.val + 1) (by omega), wayA_fly m c t.val h8]
    by_cases hl : t.val + 2 < 8
    · rw [show t.val + 1 + 1 = t.val + 2 from rfl, wayA_fly m c (t.val + 2) hl]
      iintro ⟨HH, ⟨HA, HB⟩, #Hlev, HQ⟩
      iapply (run_even c (X m c) (Lb m c) (Wt m c) (stm m c t.val) (Ocopy c) (grid0.coords t) t.val (by omega) h1 h2
        ((cond3_iff t).mpr hl) h4 h6 hn Q)
      isplitl [HH]; · iexact HH
      isplitl [HA]; · iexact HA
      isplitr; · iapply hA; iexact Hlev
      iintro ⟨HH, HA⟩
      iapply HQ
      isplitl [HH]; · iexact HH
      isplitl [HB] <;> iassumption
    · rw [show t.val + 1 + 1 = t.val + 2 from rfl, wayA_home m c (t.val + 2) hl]
      iintro ⟨HH, ⟨HA, HB⟩, #Hlev, HQ⟩
      iapply (run_even_last c (X m c) (Lb m c) (Wt m c) (stm m c t.val) (Ocopy c) (grid0.coords t) t.val h1 h2
        (fun h => hl ((cond3_iff t).mp h)) h4 h6 hn Q)
      isplitl [HH]; · iexact HH
      isplitl [HA]; · iexact HA
      isplitr; · iapply hA; iexact Hlev
      iintro ⟨HH, HA⟩
      iapply HQ
      isplitl [HH]; · iexact HH
      isplitl [HB] <;> iassumption
  · have h4 := (cond4_iff t).mpr ⟨h8, hp⟩
    have h2 : ¬ k0_cond2 (grid0.coords t) = 1#1 := fun h => by have := (cond2_iff t).mp h; omega
    rw [way_odd m c t.val hp, way_even m c (t.val + 1) (by omega), wayB_fly m c t.val h8]
    by_cases hl : t.val + 2 < 8
    · rw [show t.val + 1 + 1 = t.val + 2 from rfl, wayB_fly m c (t.val + 2) hl]
      iintro ⟨HH, ⟨HB, HA⟩, #Hlev, HQ⟩
      iapply (run_odd c (X m c) (Lb m c) (Wt m c) (stm m c t.val) (Ocopy c) (grid0.coords t) t.val (by omega) h1 h2
        ((cond5_iff t).mpr hl) h4 h6 hn Q)
      isplitl [HH]; · iexact HH
      isplitl [HB]; · iexact HB
      isplitr; · iapply hB; iexact Hlev
      iintro ⟨HH, HB⟩
      iapply HQ
      isplitl [HH]; · iexact HH
      isplitl [HA] <;> iassumption
    · rw [show t.val + 1 + 1 = t.val + 2 from rfl, wayB_home m c (t.val + 2) hl]
      iintro ⟨HH, ⟨HB, HA⟩, #Hlev, HQ⟩
      iapply (run_odd_last c (X m c) (Lb m c) (Wt m c) (stm m c t.val) (Ocopy c) (grid0.coords t) t.val h1 h2
        (fun h => hl ((cond5_iff t).mp h)) h4 h6 hn Q)
      isplitl [HH]; · iexact HH
      isplitl [HB]; · iexact HB
      isplitr; · iapply hB; iexact Hlev
      iintro ⟨HH, HB⟩
      iapply HQ
      isplitl [HH]; · iexact HH
      isplitl [HA] <;> iassumption

end Mid

/-! ## The body obligation -/

section Body
variable (m : (ℓ : Loc nD τ sig) → Buf (Elt F) ℓ) (c : Dev nD)

theorem owesAt_intro {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (iprop(∃ W, owes (c : Thread nD τ) O W) : sProp 𝕄) ⊢ dat.owesAt () t := by
  unfold Dat.owesAt Pipeline.owesWithin Dat.bound
  rw [h, hr]
  iintro ⟨%W, H⟩
  iexists W
  isplitr; · ipureintro; exact fun _ _ => Or.inl trivial
  iexact H
theorem owesAt_elim {cfg : Pipeline.Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, H⟩
  iexists W
  iexact H

/-- The result's window after a grid point. -/
def outAfter (t : Fin cfg0.N) : sProp 𝕄 :=
  match cfg0.idle 2 (cfg0.grid.coords t) with
  | true =>
    match (cfg0.win 2).flush t with
    | false => iprop(∃ d, owns (c : Thread nD τ) ((cfg0.win 2).stage (cfg0.slots t 2)) fullShare ((dat m c).before 2 t d))
    | true => owns (c : Thread nD τ) ((cfg0.win 2).stage (cfg0.slots t 2)) fullShare ((dat m c).after 2 t)
  | false => owns (c : Thread nD τ) ((cfg0.win 2).stage (cfg0.slots t 2)) fullShare ((dat m c).after 2 t)
theorem outAfter_idle (t : Fin cfg0.N) (h : t.val ≠ 8) : outAfter m c t
    = iprop(∃ d, owns (c : Thread nD τ) ((cfg0.win 2).stage (cfg0.slots t 2)) fullShare ((dat m c).before 2 t d)) := by
  unfold outAfter
  rw [show cfg0.idle 2 (cfg0.grid.coords t) = true from idle_out t h, kept_out t h]
theorem outAfter_live (t : Fin cfg0.N) (h : t.val = 8) : outAfter m c t
    = owns (c : Thread nD τ) ((cfg0.win 2).stage (cfg0.slots t 2)) fullShare ((dat m c).after 2 t) := by
  unfold outAfter
  rw [show cfg0.idle 2 (cfg0.grid.coords t) = false from live_out t h]

/-- One grid point: from the invariant, what is owed and the three windows to the same at the next point. -/
theorem point (t : Fin cfg0.N) :
    iprop(Phi m c t.val ∗ (dat m c).owesAt () t.castSucc
        ∗ (∃ d, owns (c : Thread nD τ) ((cfg0.win 0).stage (cfg0.slots t 0)) fullShare ((dat m c).before 0 t d))
        ∗ (∃ d, owns (c : Thread nD τ) ((cfg0.win 1).stage (cfg0.slots t 1)) fullShare ((dat m c).before 1 t d))
        ∗ (∃ d, owns (c : Thread nD τ) ((cfg0.win 2).stage (cfg0.slots t 2)) fullShare ((dat m c).before 2 t d)))
      ⊢ wp frame (wpE (defs₀ (F := F)) 𝒱₀ (c : Thread nD τ) none) Set.univ (bodyC (grid0.coords t)) fun _ =>
        iprop(Phi m c (t.val + 1) ∗ (dat m c).owesAt () t.succ
          ∗ owns (c : Thread nD τ) ((cfg0.win 0).stage (cfg0.slots t 0)) fullShare (iblk m c 0 t)
          ∗ owns (c : Thread nD τ) ((cfg0.win 1).stage (cfg0.slots t 1)) fullShare (iblk m c 1 t)
          ∗ outAfter m c t) := by
  have hN : t.val < 9 := lt_of_lt_of_eq t.isLt N_0
  have hx : (iblk m c 0 t : FVec F S1024x2048 .f32) = X m c := iblk_x m c t
  have hl : (iblk m c 1 t : IVec S1024x1 32) = Lb m c := iblk_lab m c t
  have eX : (owns (c : Thread nD τ) ((cfg0.win 0).stage (cfg0.slots t 0)) fullShare (iblk m c 0 t) : sProp 𝕄)
      = iprop(xM.view.loc (c : Thread nD τ) ↦{fullShare} X m c) := (owns_x c t _).trans (congrArg _ hx)
  have eL : (owns (c : Thread nD τ) ((cfg0.win 1).stage (cfg0.slots t 1)) fullShare (iblk m c 1 t) : sProp 𝕄)
      = iprop(labM.view.loc (c : Thread nD τ) ↦{fullShare} Lb m c) := (owns_lab c t _).trans (congrArg _ hl)
  have hO : ∀ O, owedAt c t.val = O → ((dat m c).owesAt () t.castSucc : sProp 𝕄) ⊢ iprop(∃ W, owes (c : Thread nD τ) O W) :=
    fun O h => owesAt_elim (dat m c) t.castSucc O h
  have hO' : ∀ O, owedAt c (t.val + 1) = O → (iprop(∃ W, owes (c : Thread nD τ) O W) : sProp 𝕄) ⊢ (dat m c).owesAt () t.succ :=
    fun O h => owesAt_intro (dat m c) t.succ O h rfl
  simp (config := {proj := false}) only [before_x, before_lab, eX, eL]
  by_cases h0 : t.val = 0
  · have h1 := (cond1_iff t).mpr h0
    have h2 := (cond2_iff t).mpr ⟨by omega, by omega⟩
    have h3 := (cond3_iff t).mpr (by omega)
    have h4 : ¬ k0_cond4 (grid0.coords t) = 1#1 := fun h => by have := (cond4_iff t).mp h; omega
    have h6 : ¬ k0_cond6 (grid0.coords t) = 1#1 := fun h => by have := (cond6_iff t).mp h; omega
    have hc := coord_eq t
    have hO := hO (O₀ c) (by rw [h0]; exact owed_first c)
    have hO' := hO' (Ocopy c) (owed_mid c _ (by omega) (by omega))
    rw [outAfter_idle m c t (by omega), Phi_mid m c (t.val + 1) (by omega) (by omega), h0, Phi_first]
    unfold PhiFirst PhiMid tilesAny tilesAt
    iintro ⟨⟨⟨%K, He⟩, #Hlev, ⟨Ha, Hb, Hs, Hl⟩, Hp, Hpy, Hpx, HA, HB, Hr⟩, HO, ⟨%d0, HX⟩, ⟨%d1, HL⟩, Hout⟩
    ihave HO := hO $$ HO
    iapply (run_first (sums m) K c (X m c) (Lb m c) (Wt m c) (grid0.coords t) (by omega) (by omega) h1 h2 h3 h4 h6)
    isplitl [He]; · iexact He
    isplitr; · iexact Hlev
    isplitl [HX HL Ha Hb Hs Hl Hpy Hpx HA HB HO]
    · unfold Fresh
      isplitl [HX]; · iexact HX
      isplitl [HL]; · iexact HL
      isplitl [Ha]; · iexact Ha
      isplitl [Hb]; · iexact Hb
      isplitl [Hs]; · iexact Hs
      isplitl [Hl]; · iexact Hl
      isplitl [Hpy]; · iexact Hpy
      isplitl [Hpx]; · iexact Hpx
      isplitl [HA]; · iexact HA
      isplitl [HB]; · iexact HB
      iexact HO
    rw [way_odd m c (0 + 1) rfl, wayB_fly m c (0 + 1) (by decide), wayA_fly m c (0 + 1 + 1) (by decide)]
    unfold Held
    iintro ⟨Hm, ⟨HX, HL, Ha, Hb, Hs, Hl, HO⟩, HA, HB⟩
    isplitl [Hm Ha Hb Hs Hl Hp HA HB Hr]
    · isplitl [Hm]; · iexists K; iexact Hm
      isplitr; · iexact Hlev
      isplitl [Ha Hb Hs Hl]
      · isplitl [Ha]; · iexact Ha
        isplitl [Hb]; · iexact Hb
        isplitl [Hs]; · iexact Hs
        iexact Hl
      isplitl [Hp]; · iexact Hp
      isplitl [HA HB]
      · isplitl [HB]; · iexact HB
        iexact HA
      iexact Hr
    isplitl [HO]; · iapply hO'; iexact HO
    isplitl [HX]; · iexact HX
    isplitl [HL]; · iexact HL
    iexact Hout
  by_cases h8 : t.val = 8
  · have h1 : ¬ k0_cond1 (grid0.coords t) = 1#1 := fun h => h0 ((cond1_iff t).mp h)
    have h2 : ¬ k0_cond2 (grid0.coords t) = 1#1 := fun h => by have := (cond2_iff t).mp h; omega
    have h4 : ¬ k0_cond4 (grid0.coords t) = 1#1 := fun h => by have := (cond4_iff t).mp h; omega
    have h6 := (cond6_iff t).mpr h8
    have hO := hO (Ocopy c) (owed_mid c _ h0 (by omega))
    have hO' := hO' 0 (by rw [h8]; exact owed_last c)
    rw [outAfter_live m c t h8, show (dat m c).after 2 t = result (sums m) c from rfl, owns_out, Phi_mid m c _ h0 (by omega), h8, Phi_last]
    have eO : ∀ d, (owns (c : Thread nD τ) ((cfg0.win 2).stage (cfg0.slots t 2)) fullShare ((dat m c).before 2 t d) : sProp 𝕄)
      = iprop(outM.view.loc (c : Thread nD τ) ↦{fullShare} ((dat m c).before 2 t d : Buf (Elt F) (outM.view.loc (c : Thread nD τ)))) :=
      fun d => owns_out c t _
    simp (config := {proj := false}) only [eO]
    unfold PhiMid PhiLast tilesAny tilesAt semsZero
    rw [way_even m c 8 rfl, wayA_home m c 8 (by decide), wayB_home m c (8 + 1) (by decide)]
    iintro ⟨⟨⟨%K, Hm⟩, #Hlev, ⟨Ha, Hb, Hs, Hl⟩, Hp, ⟨HA, HB⟩, Hr⟩, HO, ⟨%d0, HX⟩, ⟨%d1, HL⟩, ⟨%d2, Hout⟩⟩
    ihave HO := hO $$ HO
    iapply (run_last (sums m) K c (X m c) (Lb m c) (grid0.coords t) (stm m c 8) rfl h1 h2 h4 h6)
    isplitl [Hm]; · iexact Hm
    isplitr; · iexact Hlev
    isplitl [HX HL Ha Hb Hs Hl HO]
    · unfold Held
      isplitl [HX]; · iexact HX
      isplitl [HL]; · iexact HL
      isplitl [Ha]; · iexact Ha
      isplitl [Hb]; · iexact Hb
      isplitl [Hs]; · iexact Hs
      isplitl [Hl]; · iexact Hl
      iexact HO
    isplitl [Hp]; · iexact Hp
    isplitl [Hout]; · iexists _; iexact Hout
    unfold Done
    iintro ⟨Hz, HX, HL, Ha, Hb, Hs, Hl, Hp, Hpy, Hpx, Hout, HO⟩
    isplitl [Hz Ha Hb Hs Hl Hp Hpy Hpx HA HB Hr]
    · isplitl [Hz]; · iexact Hz
      isplitl [Ha Hb Hs Hl]
      · isplitl [Ha]; · iexact Ha
        isplitl [Hb]; · iexact Hb
        isplitl [Hs] <;> iassumption
      isplitl [Hp]; · iexact Hp
      isplitl [Hpy]; · iexact Hpy
      isplitl [Hpx]; · iexact Hpx
      isplitl [HA]; · iexact HA
      isplitl [HB]; · iexact HB
      iexact Hr
    isplitl [HO]; · iapply hO'; iexact HO
    isplitl [HX]; · iexact HX
    isplitl [HL]; · iexact HL
    iexact Hout
  · have hO := hO (Ocopy c) (owed_mid c _ h0 hN)
    have hO' := hO' (Ocopy c) (owed_mid c _ (by omega) (by omega))
    rw [outAfter_idle m c t h8, Phi_mid m c _ h0 hN, Phi_mid m c (t.val + 1) (by omega) (by omega)]
    unfold PhiMid tilesAt
    iintro ⟨⟨Hm, #Hlev, ⟨Ha, Hb, Hs, Hl⟩, Hp, Hw, Hr⟩, HO, ⟨%d0, HX⟩, ⟨%d1, HL⟩, Hout⟩
    ihave HO := hO $$ HO
    iapply (run_mid m c t h0 (by omega))
    isplitl [HX HL Ha Hb Hs Hl HO]
    · unfold Held
      isplitl [HX]; · iexact HX
      isplitl [HL]; · iexact HL
      isplitl [Ha]; · iexact Ha
      isplitl [Hb]; · iexact Hb
      isplitl [Hs]; · iexact Hs
      isplitl [Hl]; · iexact Hl
      iexact HO
    isplitl [Hw]; · iexact Hw
    isplitr; · iexact Hlev
    unfold Held
    iintro ⟨⟨HX, HL, Ha, Hb, Hs, Hl, HO⟩, Hw⟩
    isplitl [Hm Ha Hb Hs Hl Hp Hw Hr]
    · isplitl [Hm]; · iexact Hm
      isplitr; · iexact Hlev
      isplitl [Ha Hb Hs Hl]
      · isplitl [Ha]; · iexact Ha
        isplitl [Hb]; · iexact Hb
        isplitl [Hs] <;> iassumption
      isplitl [Hp]; · iexact Hp
      isplitl [Hw]; · iexact Hw
      iexact Hr
    isplitl [HO]; · iapply hO'; iexact HO
    isplitl [HX]; · iexact HX
    isplitl [HL]; · iexact HL
    iexact Hout

theorem defs₀_row (t : Fin cfg0.N) : defs₀ (F := F) .tc cfg0.body (cfg0.bodyArgs t (cfg0.slots t)) = bodyAt0 t := by
  unfold defs₀; rw [Defs.onTc_tc]

/-- The body obligation of the pipeline on device `c`. -/
theorem body : BodyObligation (dat m c) (defs₀ (F := F)) 𝒱₀ () Set.univ := fun t => by
  rw [bigSep_W0, bigSep_W0, defs₀_row, bodyAt0_eq]
  exact point m c t

end Body

end Cert.Proof.Ce

end
-- ==== Proof.Launch.lean ====
/-
  The launch: the ghost state of the exchange made from the launch element and dealt to the devices, the pallas_call as a
  region between the two host reshapes, and the run of the whole program.
-/
module

public import proofs.«01_k».proof.Proof.Body
public import Idealize.ShloMosaic.Lib.Pipeline.Value

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The buffers and the semaphores of a device -/

/-- The buffers that live through the whole program. -/
def bufs : Finset (DevRef τ sig) := (StableHlo.tcRefs τ sig).filter fun b => ¬ b.isScoped
/-- Those the pallas_call's windows do not stage; of them the weights, which the body addresses itself. -/
def others : Finset (DevRef τ sig) := {Proc.devRef .tc main_arg1, Proc.devRef .tc main_arg2, Proc.devRef .tc main_v3}
def weights : Finset (DevRef τ sig) := {Proc.devRef .tc main_arg1}

theorem weights_sub : weights ⊆ others := by decide +kernel
theorem arrs_sub : Pipeline.arrRefs (τ := τ) spec0 ⊆ bufs := by decide +kernel
theorem rest_eq : bufs \ Pipeline.arrRefs (τ := τ) spec0 = others := by decide +kernel

theorem held_bufs (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) others W) := by
  rw [StableHlo.held_sub_split (c : Thread nD τ) arrs_sub W, rest_eq]
theorem unscopedBufs_eq (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem held_weights (c : Dev nD) (W : Valuation τ sig (Elt F)) : (StableHlo.held (c : Thread nD τ) weights W : sProp 𝕄)
    = iprop(wM.view.loc (c : Thread nD τ) ↦{fullShare} (W (Proc.devRef .tc main_arg1) : Buf (Elt F) (wM.view.loc (c : Thread nD τ)))) := by
  unfold StableHlo.held weights
  rw [BI.bigSep_singleton]
/-- The four buffers the claims read. -/
theorem held_read (c : Dev nD) (W : Valuation τ sig (Elt F)) : (StableHlo.held (c : Thread nD τ) bufs W : sProp 𝕄)
    ⊢ iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v3) ↦{fullShare} W (Proc.devRef .tc main_v3))) := by
  unfold StableHlo.held
  have hs : ({Proc.devRef .tc main_arg0, Proc.devRef .tc main_arg1, Proc.devRef .tc main_arg2, Proc.devRef .tc main_v3} : Finset (DevRef τ sig)) ⊆ bufs := by
    decide +kernel
  refine (BI.bigSep_subset hs).trans ?_
  rw [bigSep_eq_bigSepL_of_eq [Proc.devRef .tc main_arg0, Proc.devRef .tc main_arg1, Proc.devRef .tc main_arg2, Proc.devRef .tc main_v3]
    (by decide +kernel) (by decide +kernel)]
  exact BI.Entails.refl _

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]
theorem unscoped_eq : ∀ sm : SemLoc sig, sm.isScoped .tc = false → sm = .reg barS := by decide +kernel

/-- The kernel's own semaphores. -/
def osem : Fin 6 → SemLoc sig
  | 0 => .dma semA.sem | 1 => .dma semB.sem | 2 => .dma sendY | 3 => .dma recvY | 4 => .dma sendX | 5 => .dma recvX
theorem osem_facts : Pipeline.OwnSemFacts spec0 osem := by decide +kernel
theorem ownSems_eq (c : Dev nD) : (Pipeline.ownSems0 osem c : sProp 𝕄)
    = iprop(semVal ((c : Thread nD τ), SemLoc.dma semA.sem) 0 ∗ semVal ((c : Thread nD τ), SemLoc.dma semB.sem) 0
      ∗ semVal (sendYCell c) 0 ∗ semVal (recvYCell c) 0 ∗ semVal (sendXCell c) 0 ∗ semVal (recvXCell c) 0) := by
  unfold Pipeline.ownSems0
  rw [bigSep_univ_eq_bigSepL [0, 1, 2, 3, 4, 5] (by decide) (by decide)]
  rfl
/-- A whole buffer at its full share is the two halves of the share. -/
theorem halves {ℓ : Loc nD τ sig} (f : Buf (Elt F) ℓ) : ((ℓ ↦{fullShare} f) : sProp 𝕄)
    = iprop((ℓ ↦{fullShare.left} f) ∗ (ℓ ↦{fullShare.right} f)) :=
  BI.Entails.antisymm (pointsTo_share (PosShare.mem_left_op_right fullShare)).1 (pointsTo_share (PosShare.mem_left_op_right fullShare)).2

/-! ## The contents through the program -/

section Values
variable (m : (ℓ : Loc nD τ sig) → Buf (Elt F) ℓ) (c : Dev nD)

/-- As launched, after the first host line, after the pallas_call, after the second host line. -/
abbrev Vm : Valuation τ sig (Elt F) := fun b => m (c, b)
abbrev V1 : Valuation τ sig (Elt F) := StableHlo.after hostOps0 (Vm m c)
def V2 : Valuation τ sig (Elt F) := Function.update (V1 m c) (Proc.devRef .tc main_v2) (result (sums m) c)
abbrev V3 : Valuation τ sig (Elt F) := StableHlo.after hostOps1 (V2 m c)

theorem V1_eq : V1 m c = V0 m c := by unfold V0; rfl
theorem V2_out : V2 m c (Proc.devRef .tc main_v2) = result (sums m) c := Function.update_self ..
theorem V2_of_ne (b : DevRef τ sig) (h : b ≠ Proc.devRef .tc main_v2) : V2 m c b = V0 m c b :=
  (Function.update_of_ne h _ _).trans (congrFun (V1_eq m c) b)

/-- The second host line changes the buffer it writes only. -/
theorem V3_of_ne (b : Ref sig .tc) (h : b ≠ main_v3) : V3 m c (Proc.devRef .tc b) = V2 m c (Proc.devRef .tc b) :=
  StableHlo.after_of_forall_not_mem (b := Proc.devRef .tc b) _ _ (fun op hop => by
    obtain rfl := List.mem_singleton.mp hop
    rw [StableHlo.reshape_writes, Finset.mem_singleton]
    exact StableHlo.devRef_ne_of_ne h)
theorem V3_arg0 : V3 m c (Proc.devRef .tc main_arg0) = m ((c : Thread nD τ).loc main_arg0) :=
  (V3_of_ne m c main_arg0 (by decide)).trans ((V2_of_ne m c _ (by decide)).trans (V_main_arg0 m c))
theorem V3_arg1 : V3 m c (Proc.devRef .tc main_arg1) = m ((c : Thread nD τ).loc main_arg1) :=
  (V3_of_ne m c main_arg1 (by decide)).trans ((V2_of_ne m c _ (by decide)).trans (V_main_arg1 m c))
theorem V3_arg2 : V3 m c (Proc.devRef .tc main_arg2) = m ((c : Thread nD τ).loc main_arg2) :=
  (V3_of_ne m c main_arg2 (by decide)).trans ((V2_of_ne m c _ (by decide)).trans (V_main_arg2 m c))

/-- What the program leaves in its result. -/
def out : FVec F S1024 .f32 := V3 m c (Proc.devRef .tc main_v3)

end Values

/-! ## The pallas_call as a region -/

section Region
variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

/-- The result's array ends at the result. -/
theorem out_final (c : Dev nD) : (dat m c).arrAt 2 cfg0.N = result (sums m) c := by
  have hemb : ∀ (t : Fin cfg0.N) (y : (⟨2, ![1024, 1]⟩ : Shape).Idx), ((cfg0.win 2).blk t).view.emb y = y := fun t y => by
    funext a
    apply Fin.ext
    fin_cases a
    · show 0 + 1 * (y 0).val = (y 0).val; omega
    · show 0 + 1 * (y 1).val = (y 1).val; omega
  refine (dat m c).arrAt_eq_of_cover 2 (result (sums m) c) (fun t ht => ?_) (fun i => ?_)
  · funext y
    exact congrArg (result (sums m) c) (hemb t y).symm
  · exact ⟨t0_8, (flush0_2 t0_8).mpr rfl, by
      have := View.emb_mem_set ((cfg0.win 2).blk t0_8).view i
      rwa [hemb t0_8 i] at this⟩

/-- From the launch: the ghost state with its credit. -/
def Tk (c : Dev nD) : sProp 𝕄 := iprop((∃ K, ghost (sums m) K c) ∗ cred (tallyAt (barCell c) () 2) ∗ copyCred c)
/-- The same with the copy cells open. -/
def Xk (c : Dev nD) : sProp 𝕄 :=
  iprop((∃ K, entry (sums m) K c) ∗ levAts L lv ∗ semVal ((c : Thread nD τ), SemLoc.dma semA.sem) 0 ∗ semVal ((c : Thread nD τ), SemLoc.dma semB.sem) 0)
def Yk (c : Dev nD) : sProp 𝕄 := semVal (barCell c) 0

theorem open_cells (c : Dev nD) : iprop(Tk m c ∗ Pipeline.ownSems0 osem c ∗ levAts L lv) ⊢ (|={Set.univ}=> Xk m c : sProp 𝕄) := by
  rw [ownSems_eq]
  unfold Tk Xk ghost invs
  iintro ⟨⟨⟨%K, ⟨#HIb, #HIsy, #HIry, #HIsx, #HIrx, #HIby, #HIbx, #HIryN, #HIrxN⟩, Hat, ⟨HoSY, HoRY, HoSX, HoRX⟩, #Hr, Hbt, Hct⟩, HcB, Hcc⟩,
    ⟨HsA, HsB, HsSY, HsRY, HsSX, HsRX⟩, #Hlev⟩
  imod (Rounds.cell_open ER (exRd (sums m)) (g := sendYCell c) (Set.mem_univ (K (sendYCell c)))) $$ [HoSY HsSY] with ⟨HaSY, #HrSY⟩
  · isplitr; · iexact HIsy
    isplitl [HoSY] <;> iassumption
  imod (Rounds.cell_open ER (exRd (sums m)) (g := recvYCell c) (Set.mem_univ (K (recvYCell c)))) $$ [HoRY HsRY] with ⟨HaRY, #HrRY⟩
  · isplitr; · iexact HIry
    isplitl [HoRY] <;> iassumption
  imod (Rounds.cell_open ER (exRd (sums m)) (g := sendXCell c) (Set.mem_univ (K (sendXCell c)))) $$ [HoSX HsSX] with ⟨HaSX, #HrSX⟩
  · isplitr; · iexact HIsx
    isplitl [HoSX] <;> iassumption
  imod (Rounds.cell_open ER (exRd (sums m)) (g := recvXCell c) (Set.mem_univ (K (recvXCell c)))) $$ [HoRX HsRX] with ⟨HaRX, #HrRX⟩
  · isplitr; · iexact HIrx
    isplitl [HoRX] <;> iassumption
  imodintro
  isplitl [Hat Hbt Hct HcB Hcc HaSY HaRY HaSX HaRX]
  · iexists K
    unfold entry invs copyPos
    isplitr
    · isplitr; · iexact HIb
      isplitr; · iexact HIsy
      isplitr; · iexact HIry
      isplitr; · iexact HIsx
      isplitr; · iexact HIrx
      isplitr; · iexact HIby
      isplitr; · iexact HIbx
      isplitr; · iexact HIryN
      iexact HIrxN
    isplitl [Hat]; · iexact Hat
    isplitl [HaSY HaRY HaSX HaRX]
    · isplitl [HaSY]; · iexact HaSY
      isplitl [HaRY]; · iexact HaRY
      isplitl [HaSX] <;> iassumption
    isplitr; · iexact Hr
    isplitr
    · isplitr; · iexact HrSY
      isplitr; · iexact HrRY
      isplitr; · iexact HrSX
      iexact HrRX
    isplitl [Hbt]; · iexact Hbt
    isplitl [Hct]; · iexact Hct
    isplitl [HcB]; · iexact HcB
    iexact Hcc
  isplitr; · iexact Hlev
  isplitl [HsA] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed, at any point, is owed above level 0. -/
theorem owed_above (c : Dev nD) (n : ℕ) (g : GSem nD τ sig) (i : Unit) (h : 0 < owedAt c n g i) : i ∈ L g ∧ (0 : ℕ) < lv g i := by
  have hc : ∀ {g : GSem nD τ sig} {i : Unit}, (g = recvXCell (nx c) ∨ g = recvYCell (ny c)) → i ∈ L g ∧ (0 : ℕ) < lv g i := fun h => by
    rcases h with rfl | rfl
    · exact ⟨by rw [L_tc]; exact Finset.mem_singleton_self _, by rw [lv_recvX]; decide⟩
    · exact ⟨by rw [L_tc]; exact Finset.mem_singleton_self _, by rw [lv_recvY]; decide⟩
  have hb : ∀ d : Dev nD, i ∈ L (barCell d) ∧ (0 : ℕ) < lv (barCell d) i := fun d =>
    ⟨by rw [L_tc]; exact Finset.mem_singleton_self _, by rw [lv_bar]; decide⟩
  unfold owedAt at h
  split at h
  · rcases O₀_pos h with (h | rfl) | rfl
    · exact hc h
    · exact hb _
    · exact hb _
  · split at h
    · exact hc (Ocopy_pos h)
    · exact absurd h (Nat.lt_irrefl 0)

theorem enter (c : Dev nD) : iprop(Pipeline.scopedRest spec0 c ∗ (∃ r, prngReg c r) ∗ StableHlo.held (c.tc : Thread nD τ) weights (V1 m c) ∗ Xk m c)
    ⊢ (PhiFirst m c : sProp 𝕄) := by
  rw [scopedRest0_eq, held_weights, halves]
  unfold PhiFirst Xk tilesAny partAny pyAny pxAny HomeA HomeB
  iintro ⟨⟨H0, H1, H2, H3, H4, H5, H6, H7, H8⟩, Hp, ⟨HWl, HWr⟩, HK, #Hlev, HA, HB⟩
  isplitl [HK]; · iexact HK
  isplitr; · iexact Hlev
  isplitl [H2 H3 H4 H5]
  · isplitl [H2]; · iexact H2
    isplitl [H3]; · iexact H3
    isplitl [H4]; · iexact H4
    iexact H5
  isplitl [H6]; · iexact H6
  isplitl [H7]; · iexact H7
  isplitl [H8]; · iexact H8
  isplitl [H0 HA HWl]
  · isplitl [H0]; · iexact H0
    isplitl [HA]; · iexact HA
    iexact HWl
  isplitl [H1 HB HWr]
  · isplitl [H1]; · iexact H1
    isplitl [HB]; · iexact HB
    iexact HWr
  iexact Hp

theorem leave (c : Dev nD) : (PhiLast m c : sProp 𝕄)
    ⊢ iprop(Pipeline.scopedRest spec0 c ∗ (∃ r, prngReg c r) ∗ StableHlo.held (c.tc : Thread nD τ) weights (V2 m c) ∗ Pipeline.ownSems0 osem c ∗ Yk c) := by
  rw [scopedRest0_eq, held_weights, ownSems_eq, V2_of_ne m c _ (by decide), halves]
  unfold PhiLast Yk semsZero tilesAny partAny pyAny pxAny HomeA HomeB
  iintro ⟨⟨Hb, HsSY, HsRY, HsSX, HsRX⟩, ⟨H2, H3, H4, H5⟩, H6, H7, H8, ⟨H0, HA, HWl⟩, ⟨H1, HB, HWr⟩, Hp⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hp]; · iexact Hp
  isplitl [HWl HWr]
  · isplitl [HWl]; · iexact HWl
    iexact HWr
  isplitr [Hb]
  · isplitl [HA]; · iexact HA
    isplitl [HB]; · iexact HB
    isplitl [HsSY]; · iexact HsSY
    isplitl [HsRY]; · iexact HsRY
    isplitl [HsSX]; · iexact HsSX
    iexact HsRX
  iexact Hb

end Region

end Cert.Proof.Ce

end
-- ==== Proof.Run.lean ====
/-
  The run of the whole program: from any memory with the counters at zero it ends on every device with the arguments
  unchanged, the exchanged result in the result's buffer, and every counter at zero again.
-/
module

public import proofs.«01_k».proof.Proof.Launch

@[expose] public section

set_option maxRecDepth 16384

noncomputable section

namespace Cert.Proof.Ce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "ℍ" => Pipeline.HostSeg (Name := ℕ) (U := UU) (pcfgs (F := F)) defs₀ 𝒱₀ L lv

/-! ## The segments of the program -/

section Segments
variable (m : (ℓ : Loc nD τ sig) → Buf (Elt F) ℓ)

/-- What goes beside the buffers from the launch to the pallas_call, and from it to the end. -/
def R0 (c : Dev nD) : sProp 𝕄 := iprop(Tk m c ∗ (∃ r, prngReg c r) ∗ ∃ W, owes (c : Thread nD τ) (O₀ c) W)
def R1 (c : Dev nD) : sProp 𝕄 := iprop(semVal (barCell c) 0 ∗ ∃ W, owes (c : Thread nD τ) (0 : CellTallies nD τ sig Unit) W)

theorem ops0_sub : ∀ op ∈ (hostOps0 : List (HloOp τ sig (Elt F))), op.bufs ⊆ bufs := fun op h =>
  Pipeline.sub_ucRefs op (List.forall_iff_forall_mem.mp hostOps0_sub op h)
theorem ops1_sub : ∀ op ∈ (hostOps1 : List (HloOp τ sig (Elt F))), op.bufs ⊆ bufs := fun op h =>
  Pipeline.sub_ucRefs op (List.forall_iff_forall_mem.mp hostOps1_sub op h)
theorem ops0_fresh : ∀ op ∈ (hostOps0 : List (HloOp τ sig (Elt F))), op.fresh = ∅ := fun op h => by
  obtain rfl := List.mem_singleton.mp h; rfl
theorem ops1_fresh : ∀ op ∈ (hostOps1 : List (HloOp τ sig (Elt F))), op.fresh = ∅ := fun op h => by
  obtain rfl := List.mem_singleton.mp h; rfl

def seg0 : ℍ := Pipeline.HostSeg.ofOps _ _ _ _ _ bufs hostOps0 ops0_sub ops0_fresh (Vm m) (R0 m)
def seg1 : ℍ := Pipeline.HostSeg.ofOps _ _ _ _ _ bufs hostOps1 ops1_sub ops1_fresh (V2 m) R1

/-- The windows' arrays as the pallas_call meets and leaves them. -/
theorem arr_entry (c : Dev nD) (w : Fin 3) : (dat m c).arrAt w 0 = V1 m c (Proc.devRef .tc (Pipeline.arrRef spec0 w)) :=
  (congrFun (V1_eq m c) (Proc.devRef .tc (Pipeline.arrRef spec0 w))).symm
theorem arr_exit (c : Dev nD) : ∀ w : Fin 3, (dat m c).arrAt w cfg0.N = V2 m c (Proc.devRef .tc (Pipeline.arrRef spec0 w))
  | 0 => ((dat m c).arrAt_in 0 rfl _).trans (V2_of_ne m c (Proc.devRef .tc main_arg0) (by decide)).symm
  | 1 => ((dat m c).arrAt_in 1 rfl _).trans (V2_of_ne m c (Proc.devRef .tc main_v1) (by decide)).symm
  | 2 => (out_final m c).trans (V2_out m c).symm

theorem share_full (c : Dev nD) (w : Fin 3) : (dat m c).share w = fullShare := by
  fin_cases w <;> rfl
theorem win_sem : ∀ (w : Fin 3) (s : Fin (cfg0.win w).nbuf), SemLoc.dma ((cfg0.win w).sem s) ≠ .reg barS
    ∧ SemLoc.dma ((cfg0.win w).sem s) ≠ .dma recvY ∧ SemLoc.dma ((cfg0.win w).sem s) ≠ .dma recvX := by
  decide +kernel

set_option backward.isDefEq.respectTransparency.types false in
/-- The pallas_call. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts weights others weights_sub kit rfl
    (fun c => (body m c).loose) (fun _ => 0) O₀ (fun c => (zero_add (O₀ c)).symm) owed_last (fun _ => rfl) (share_full m)
    (V1 m) (V2 m)
    (fun c b hb => (V2_of_ne m c b (fun h => by subst h; exact absurd hb (by decide +kernel))).trans (congrFun (V1_eq m c) b).symm)
    (Tk m) Yk (Xk m) Yk (open_cells m) (fun c => enter m c) (fun c => leave m c)
    (fun c => by iintro H; imodintro; iexact H)
    (fun _ => 0)
    ⟨fun c w s => by rw [L_tc]; exact Finset.mem_singleton_self _,
      fun c w s => by
        exact le_of_eq (lv_low c _ (win_sem w s).1 (win_sem w s).2.1 (win_sem w s).2.2),
      fun c t g i h => owed_above c t.val g i h⟩
    (fun _ => iprop(emp)) (arr_entry m) (arr_exit m)

theorem reg_pre (c : Dev nD) : iprop(StableHlo.held (c : Thread nD τ) bufs (V1 m c) ∗ R0 m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [held_bufs, zero_add]
  unfold R0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) bufs (V2 m c) ∗ R1 c) := by
  show iprop(StableHlo.held (c.tc : Thread nD τ) (Pipeline.arrRefs (τ := τ) spec0) (V2 m c) ∗ (∃ r, prngReg c r)
    ∗ (StableHlo.held (c.tc : Thread nD τ) others (V2 m c) ∗ emp) ∗ Yk c ∗ ∃ Wd, owes (c : Thread nD τ) (0 : CellTallies nD τ sig Unit) Wd) ⊢ _
  rw [held_bufs]
  unfold R1 Yk
  iintro ⟨Ha, -, ⟨Hr, -⟩, Hb, HO⟩
  isplitl [Ha Hr]; · isplitl [Ha] <;> iassumption
  isplitl [Hb] <;> iassumption

def segs : List (Pipeline.Seg (pcfgs (F := F)) adm (pdats m) () defs₀ 𝒱₀ L lv) := [.host (seg0 m), .region (reg m), .host (seg1 m)]

theorem main_eq (c : Dev nD) : main (F := F) c = Pipeline.Seg.run (segs m) := main_segs _ _ _ _ _ _ _ _ _ rfl rfl c

end Segments

/-! ## The ghost state, made at the launch and dealt -/

/-- The cells and the tokens, each a device and a number. -/
def csem : Fin 4 → SemLoc sig | 0 => .dma sendY | 1 => .dma recvY | 2 => .dma sendX | 3 => .dma recvX
def tsem : Fin 6 → SemLoc sig | 0 => .reg barS | 1 => .reg barS | 2 => .dma sendY | 3 => .dma recvY | 4 => .dma sendX | 5 => .dma recvX
def tduty : Fin 6 → Bool | 1 => true | _ => false
theorem csem_inj : Function.Injective csem := by decide +kernel
theorem csem_ne_bar : ∀ k, csem k ≠ .reg barS := by decide +kernel
theorem tok_inj : Function.Injective (fun k : Fin 6 => (tsem k, tduty k)) := by decide +kernel

def barEmb : Dev nD ↪ GSem nD τ sig := ⟨fun c => barCell c, fun _ _ h => congrArg (fun g : GSem nD τ sig => g.1.1) h⟩
def copyEmb : Dev nD × Fin 4 ↪ GSem nD τ sig :=
  ⟨fun ck => ((ck.1 : Thread nD τ), csem ck.2), fun _ _ h =>
    Prod.ext (congrArg (fun g : GSem nD τ sig => g.1.1) h) (csem_inj (congrArg Prod.snd h))⟩
def tokEmb : Dev nD × Fin 6 ↪ GSem nD τ sig × ℕ × Bool :=
  ⟨fun ck => (((ck.1 : Thread nD τ), tsem ck.2), 0, tduty ck.2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩

abbrev barCells : Finset (GSem nD τ sig) := Finset.univ.map barEmb
abbrev copyCells : Finset (GSem nD τ sig) := Finset.univ.map copyEmb
abbrev allToks : Finset (GSem nD τ sig × ℕ × Bool) := Finset.univ.map tokEmb

theorem cells_disjoint : Disjoint barCells copyCells := by
  refine Finset.disjoint_left.mpr fun g h1 h2 => ?_
  obtain ⟨c, -, rfl⟩ := Finset.mem_map.mp h1
  obtain ⟨ck, -, h⟩ := Finset.mem_map.mp h2
  exact csem_ne_bar ck.2 (congrArg Prod.snd h)
theorem bar_mem (c : Dev nD) : barCell c ∈ barCells ∪ copyCells :=
  Finset.mem_union_left _ (Finset.mem_map_of_mem barEmb (Finset.mem_univ c))
theorem copy_mem (c : Dev nD) (k : Fin 4) : ((c : Thread nD τ), csem k) ∈ barCells ∪ copyCells :=
  Finset.mem_union_right _ (Finset.mem_map_of_mem copyEmb (Finset.mem_univ (c, k)))

/-- The launch element: the pipeline library's, the exchange's, nothing of the local copies' counters. -/
def u₀ : UU :=
  (initOf (Pipeline.cells (Pipeline.pin (pcfgs (F := F)) adm) cellOf_inj) (Pipeline.launchToks (Pipeline.pin (pcfgs (F := F)) adm) cellOf_inj),
    (launchOf barCells copyCells allToks, 1))

/-- All of a resource with one device. -/
def onDev (c₀ : Dev nD) (X : sProp 𝕄) (c : Dev nD) : sProp 𝕄 := if c = c₀ then X else iprop(emp)
theorem onDev_all (c₀ : Dev nD) (X : sProp 𝕄) : bigSep Finset.univ (onDev c₀ X) = X := by
  have hr : bigSep (Finset.univ.erase c₀) (onDev c₀ X) = (BI.emp : sProp 𝕄) :=
    (bigSep_congr (Ψ := fun _ => (BI.emp : sProp 𝕄)) fun c hc => if_neg (Finset.ne_of_mem_erase hc)).trans (BI.bigSep_emp_const _)
  rw [bigSep_univ_at _ c₀, hr, show onDev c₀ X c₀ = X from if_pos rfl]
  exact BI.equiv_iff.mp sep_emp
def G : Dev nD → sProp 𝕄 := onDev 0 (BI.own (ER (launchOf barCells copyCells allToks)))

section Deal
variable (m : (ℓ : Loc nD τ sig) → Buf (Elt F) ℓ) (ρ : Dev nD → PrngReg)

/-- What every device may consult: all the invariants, and that every barrier cell is open. -/
def records (κ : GSem nD τ sig → ℕ) : sProp 𝕄 :=
  iprop((bigSep (barCells ∪ copyCells) fun g => cellInv ER (exRd (sums m)) (κ g) g) ∗ bigSep barCells fun g => reached ER g 0)
instance records_persistent (κ : GSem nD τ sig → ℕ) : BI.Persistent (records m κ) := by unfold records; infer_instance

theorem inv_at (κ : GSem nD τ sig → ℕ) {g : GSem nD τ sig} (hg : g ∈ barCells ∪ copyCells) :
    (bigSep (barCells ∪ copyCells) fun g => (cellInv ER (exRd (sums m)) (κ g) g : sProp 𝕄)) ⊢ cellInv ER (exRd (sums m)) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

/-- What one device only holds. -/
def linear (c : Dev nD) : sProp 𝕄 :=
  iprop(atPos ER (barCell c) 0 ∅ 0
    ∗ (openTok ER (sendYCell c) ∗ openTok ER (recvYCell c) ∗ openTok ER (sendXCell c) ∗ openTok ER (recvXCell c))
    ∗ barToks c ∗ copyToks c)

theorem ghost_intro (κ : GSem nD τ sig → ℕ) (c : Dev nD) : iprop(records m κ ∗ linear c) ⊢ iprop(∃ K, ghost (sums m) K c) := by
  unfold records linear ghost invs
  iintro ⟨⟨#HI, #HR⟩, Hat, Ho, Hbt, Hct⟩
  iexists κ
  isplitr
  · isplitr; · iapply (inv_at m κ (bar_mem c)); iexact HI
    isplitr; · iapply (inv_at m κ (copy_mem c 0)); iexact HI
    isplitr; · iapply (inv_at m κ (copy_mem c 1)); iexact HI
    isplitr; · iapply (inv_at m κ (copy_mem c 2)); iexact HI
    isplitr; · iapply (inv_at m κ (copy_mem c 3)); iexact HI
    isplitr; · iapply (inv_at m κ (bar_mem (ny c))); iexact HI
    isplitr; · iapply (inv_at m κ (bar_mem (nx c))); iexact HI
    isplitr; · iapply (inv_at m κ (copy_mem (ny c) 1)); iexact HI
    iapply (inv_at m κ (copy_mem (nx c) 3)); iexact HI
  isplitl [Hat]; · iexact Hat
  isplitl [Ho]; · iexact Ho
  isplitr
  · isplitr; · iapply (reached_at (F := F) (ny c)); iexact HR
    iapply (reached_at (F := F) (nx c)); iexact HR
  isplitl [Hbt] <;> iassumption

/-- The tokens of device `c`'s own five cells. -/
def ownToks (c : Dev nD) : sProp 𝕄 :=
  iprop(dutyTok ER (barCell c) 0 false ∗ dutyTok ER (barCell c) 0 true ∗ dutyTok ER (sendYCell c) 0 false
    ∗ dutyTok ER (recvYCell c) 0 false ∗ dutyTok ER (sendXCell c) 0 false ∗ dutyTok ER (recvXCell c) 0 false)

theorem toks_eq : bigSep allToks (fun x => (dutyTok ER x.1 x.2.1 x.2.2 : sProp 𝕄)) = bigSep Finset.univ fun c : Dev nD => ownToks c := by
  unfold allToks
  rw [bigSep_map, bigSep_univ_prod]
  exact bigSep_congr fun c _ => bigSep_univ_eq_bigSepL [0, 1, 2, 3, 4, 5] (by decide) (by decide)
    (fun k : Fin 6 => (dutyTok ER (tokEmb (c, k)).1 (tokEmb (c, k)).2.1 (tokEmb (c, k)).2.2 : sProp 𝕄))
theorem opens_eq : bigSep copyCells (fun g => (openTok ER g : sProp 𝕄))
    = bigSep Finset.univ fun c : Dev nD =>
        iprop(openTok ER (sendYCell c) ∗ openTok ER (recvYCell c) ∗ openTok ER (sendXCell c) ∗ openTok ER (recvXCell c)) := by
  unfold copyCells
  rw [bigSep_map, bigSep_univ_prod]
  exact bigSep_congr fun c _ => bigSep_univ_eq_bigSepL [0, 1, 2, 3] (by decide) (by decide)
    (fun k : Fin 4 => (openTok ER (copyEmb (c, k)) : sProp 𝕄))

/-- A conjunction of conjunctions is one conjunction of each kind. -/
theorem apart (Φ Ψ : Dev nD → sProp 𝕄) : bigSep Finset.univ (fun c => iprop(Φ c ∗ Ψ c)) ⊢ iprop(bigSep Finset.univ Φ ∗ bigSep Finset.univ Ψ) :=
  Entails.of_eq (bigSep_sep _ _ _)
theorem together (Φ Ψ : Dev nD → sProp 𝕄) : iprop(bigSep Finset.univ Φ ∗ bigSep Finset.univ Ψ) ⊢ bigSep Finset.univ (fun c => iprop(Φ c ∗ Ψ c)) :=
  Entails.of_eq (bigSep_sep _ _ _).symm

def yEquiv : Dev nD ≃ Dev nD := ⟨ny, ny, ny_ny, ny_ny⟩
def xEquiv : Dev nD ≃ Dev nD := ⟨nx, nx, nx_nx, nx_nx⟩

/-- Of each device's own tokens, those the other devices pay go to them. -/
theorem toks_deal : (bigSep Finset.univ fun c : Dev nD => (ownToks c : sProp 𝕄)) ⊢ bigSep Finset.univ fun c : Dev nD => iprop(barToks c ∗ copyToks c) := by
  unfold ownToks barToks copyToks
  simp only [bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv yEquiv (fun c : Dev nD => (dutyTok ER (recvYCell c) 0 false : sProp 𝕄)),
    bigSep_univ_equiv xEquiv (fun c : Dev nD => (dutyTok ER (recvXCell c) 0 false : sProp 𝕄))]
  iintro ⟨H0, H1, H2, H3, H4, H5⟩
  isplitl [H0 H1]
  · isplitl [H0]; · iexact H0
    iexact H1
  isplitl [H2]; · iexact H2
  isplitl [H3]; · iexact H3
  isplitl [H4]; · iexact H4
  iexact H5

/-! ### What the other devices owe a device -/

/-- What is owed to a cell of the device at the other end of an involution. -/
theorem tally_same (f : Dev nD → Dev nD) (hf : ∀ c, f (f c) = c) (s : SemLoc sig) (n : ℕ) (d c : Dev nD) :
    (tallyAt ((f d : Thread nD τ), s) () n : CellTallies nD τ sig Unit) ((c : Thread nD τ), s) () = if d = f c then n else 0 := by
  rw [tallyAt_apply]
  by_cases h : d = f c
  · subst h; rw [hf, if_pos ⟨rfl, rfl⟩, if_pos rfl]
  · rw [if_neg h, if_neg fun e => h ?_]
    rw [congrArg (fun g : GSem nD τ sig => f g.1.1) e.1, hf]
theorem tally_other {s s' : SemLoc sig} (h : s' ≠ s) (n : ℕ) (d c : Dev nD) :
    (tallyAt ((d : Thread nD τ), s) () n : CellTallies nD τ sig Unit) ((c : Thread nD τ), s') () = 0 := by
  rw [tallyAt_ne_cell (fun e => h (congrArg Prod.snd e)), Finsupp.zero_apply]

theorem owed_at (d : Dev nD) (g : GSem nD τ sig) : O₀ d g ()
    = (tallyAt (recvXCell (nx d)) () N : CellTallies nD τ sig Unit) g () + (tallyAt (recvYCell (ny d)) () N : CellTallies nD τ sig Unit) g ()
      + (tallyAt (barCell (nx d)) () 1 : CellTallies nD τ sig Unit) g () + (tallyAt (barCell (ny d)) () 1 : CellTallies nD τ sig Unit) g () := by
  unfold O₀ Ocopy
  simp only [Pi.add_apply, Finsupp.add_apply]

theorem owed_bar (d c : Dev nD) : O₀ d (barCell c) () = (if d = nx c then 1 else 0) + if d = ny c then 1 else 0 := by
  rw [owed_at, tally_other recvX_ne_bar.symm, tally_other recvY_ne_bar.symm, tally_same nx nx_nx, tally_same ny ny_ny]
  simp only [Nat.zero_add]
theorem owed_recvY (d c : Dev nD) : O₀ d (recvYCell c) () = if d = ny c then N else 0 := by
  rw [owed_at, tally_other recvX_ne_recvY.symm, tally_same ny ny_ny, tally_other recvY_ne_bar, tally_other recvY_ne_bar]
  simp only [Nat.zero_add, Nat.add_zero]
theorem owed_recvX (d c : Dev nD) : O₀ d (recvXCell c) () = if d = nx c then N else 0 := by
  rw [owed_at, tally_same nx nx_nx, tally_other recvX_ne_recvY, tally_other recvX_ne_bar, tally_other recvX_ne_bar]
  simp only [Nat.add_zero]

/-- The launch credit of a cell is what is owed to it in all. -/
theorem credit_of (g : GSem nD τ sig) (n : ℕ) (h : (∑ d : Dev nD, O₀ d g ()) = n) :
    (tallyOn g (launchCredit (Pipeline.owing O₀) 0 g) : CellTallies nD τ sig Unit) = tallyAt g () n := by
  unfold tallyAt
  refine congrArg _ (Finsupp.ext fun u => ?_)
  cases u
  rw [Pipeline.launchCredit_owing, Finsupp.single_eq_same, h]
theorem credit_bar (c : Dev nD) : (tallyOn (barCell c) (launchCredit (Pipeline.owing O₀) 0 (barCell c)) : CellTallies nD τ sig Unit)
    = tallyAt (barCell c) () 2 :=
  credit_of _ _ (by
    rw [Finset.sum_congr rfl fun d _ => owed_bar d c, Finset.sum_add_distrib, Finset.sum_ite_eq', Finset.sum_ite_eq',
      if_pos (Finset.mem_univ _), if_pos (Finset.mem_univ _)])
theorem credit_recvY (c : Dev nD) : (tallyOn (recvYCell c) (launchCredit (Pipeline.owing O₀) 0 (recvYCell c)) : CellTallies nD τ sig Unit)
    = tallyAt (recvYCell c) () N :=
  credit_of _ _ (by rw [Finset.sum_congr rfl fun d _ => owed_recvY d c, Finset.sum_ite_eq', if_pos (Finset.mem_univ _)])
theorem credit_recvX (c : Dev nD) : (tallyOn (recvXCell c) (launchCredit (Pipeline.owing O₀) 0 (recvXCell c)) : CellTallies nD τ sig Unit)
    = tallyAt (recvXCell c) () N :=
  credit_of _ _ (by rw [Finset.sum_congr rfl fun d _ => owed_recvX d c, Finset.sum_ite_eq', if_pos (Finset.mem_univ _)])

theorem creds (c : Dev nD) : (Pipeline.launchCred O₀ c : sProp 𝕄) ⊢ iprop(cred (tallyAt (barCell c) () 2) ∗ copyCred c) := by
  unfold Pipeline.launchCred copyCred
  refine (BI.bigSep_subset (Finset.subset_univ ({SemLoc.reg barS, .dma recvY, .dma recvX} : Finset (SemLoc sig)))).trans ?_
  rw [bigSep_insert (by decide), bigSep_insert (by decide), bigSep_singleton, ← credit_bar, ← credit_recvY, ← credit_recvX]
  exact BI.Entails.refl _

/-! ### From the launch to the first host line -/

abbrev T₀ (c : Dev nD) : sProp 𝕄 := iprop(StableHlo.held (c : Thread nD τ) bufs (Vm m c) ∗ R0 m c)
abbrev Tₙ (c : Dev nD) : sProp 𝕄 := iprop(StableHlo.held (c : Thread nD τ) bufs (V3 m c) ∗ semVal (barCell c) 0)

/-- What a device is given that is not the exchange's ghost state. -/
def bundle (c : Dev nD) : sProp 𝕄 :=
  iprop(StableHlo.held (c : Thread nD τ) bufs (Vm m c) ∗ (cred (tallyAt (barCell c) () 2) ∗ copyCred c)
    ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R0 Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem device_share (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show (unscopedBufs c (fun b => m ((c : Thread nD τ).loc b)) : sProp 𝕄) = StableHlo.held (c : Thread nD τ) bufs (Vm m c) from
    unscopedBufs_eq c (Vm m c), unscopedSems0_eq]
  unfold bundle
  iintro ⟨Hh, Hs, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hs] <;> iassumption

theorem devices_share : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(bundle m c ∗ (semVal (barCell c) 0 ∗ G c)) : sProp 𝕄) :=
  bigSep_mono fun c _ => device_share m ρ c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (devices_share m ρ) $$ H
  ihave H2 := (apart (F := F) _ _) $$ H'; icases H2 with ⟨HB, H3⟩
  ihave H4 := (apart (F := F) _ _) $$ H3; icases H4 with ⟨Hv, HG⟩
  ihave Hu := (show bigSep Finset.univ (G (F := F)) ⊢ BI.own (ER (launchOf barCells copyCells allToks)) from
    Entails.of_eq (onDev_all (F := F) 0 (BI.own (ER (launchOf barCells copyCells allToks))))) $$ HG
  imod (Rounds.fund_launch ER (exRd (sums m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (together (F := F) _ _)
  isplitr [HB]
  · unfold linear
    iapply (together (F := F) _ _); isplitl [Hat]; · iapply hat $$ Hat
    iapply (together (F := F) _ _); isplitl [Hopen]; · iapply (Entails.of_eq (opens_eq (F := F))) $$ Hopen
    iapply (toks_deal (F := F))
    iapply (Entails.of_eq (toks_eq (F := F))) $$ Htok
  · iexact HB

/-! ## The run -/

set_option backward.isDefEq.respectTransparency.types false in
/-- From any memory `m` with the counters at zero, every execution of the program ends: each device's arguments as they
    were, its result buffer at `out m c`, and every counter of the machine at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = out m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      ihave H2 := (own_pair_emb _ _ _) $$ HX
      icases H2 with ⟨HX, -⟩
      imodintro
      isplitl [HP]; · iexact HP
      rw [onDev_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V3 m c) ∗ R1 c) ⊢ iprop(Tₙ m c ∗ ∃ W, owes (c : Thread nD τ) (0 : CellTallies nD τ sig Unit) W)
      unfold R1
      iintro ⟨Hh, Hb, HO⟩
      isplitr [HO]
      · isplitl [Hh] <;> iassumption
      · iexact HO)
    (hinit := init m ρ)
    (QY := fun c s => (s.mem ((c : Thread nD τ).loc main_arg0) = V3 m c (Proc.devRef .tc main_arg0)
        ∧ s.mem ((c : Thread nD τ).loc main_arg1) = V3 m c (Proc.devRef .tc main_arg1)
        ∧ s.mem ((c : Thread nD τ).loc main_arg2) = V3 m c (Proc.devRef .tc main_arg2)
        ∧ s.mem ((c : Thread nD τ).loc main_v3) = V3 m c (Proc.devRef .tc main_v3)) ∧ s.sem (barCell c) = 0)
    (hfin := fun c s' => by
      dsimp only [Tₙ]
      iintro ⟨⟨Hh, Hb⟩, HSI⟩
      ihave H := (held_read (F := F) c (V3 m c)) $$ Hh
      icases H with ⟨H0, H1, H2, H3⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩,
          by simpa using hb⟩
      iexact HSI)
    (hQ := fun s h hs => ⟨fun c => by
        obtain ⟨⟨h0, h1, h2, h3⟩, -⟩ := h c
        exact ⟨h0.trans (V3_arg0 m c), h1.trans (V3_arg1 m c), h2.trans (V3_arg2 m c), h3⟩,
      sem_eq_zero hs fun c sm hsm => by
        obtain rfl := unscoped_eq sm hsm
        exact (h c).2⟩)

end Deal

end Cert.Proof.Ce

end
-- ==== Proof.Frames.lean ====
/-
  The frames: the kernel's two programs are one text, run once at any reading of the floats; the reference's run gives its own.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.ShloMosaic.TcCoe Idealize.SL.Sem

/-- The kernel's run keeps its arguments and ends with every counter at zero, at any reading of the floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => ⟨(h.1 c).1, (h.1 c).2.1, (h.1 c).2.2.1⟩, h.2⟩) (Ce.run_main m ρ)

/-- The two programs' bodies are one text. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
theorem defs_same : Cert.Kernel.defs (F := Bits) = Cert.KernelIdeal.defs (F := Bits) :=
  congrArg (Pipeline.defs Cert.KernelIdeal.pcfgs) bodies_same

/-- The kernel runs, its arguments end unchanged, and every counter ends at zero. -/
theorem frame_kernel : Cert.quiescent_Kernel (hKernel := Cert.Kernel.Gen.facts) := fun m ρ _ => by
  rw [defs_same]
  exact frame_any (F := Bits) m ρ

/-- The same of the kernel read at the reals. -/
theorem frame_ideal : Cert.quiescent_KernelIdeal (hKernelIdeal := Cert.KernelIdeal.Gen.facts) := fun m ρ _ => frame_any (F := Ideal) m ρ

/-- The reference runs and its arguments end unchanged; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  Sums and logarithms over the extended reals: a sum over a range cut into tiles, chunks and lanes, the logarithm of a sum of
  exponentials shifted by any real number, and when an extended real is a real number.
-/
module

public import Idealize.ShloMosaic.PureOps.Ideal.Laws
public import Idealize.ShloMosaic.Lib.ValueIdx

@[expose] public section

noncomputable section

namespace Cert.Proof.Ce

open Idealize.ShloMosaic
open scoped BigOperators

/-! ## A sum cut into runs -/

/-- A sum over `a * b` numbers is the sum over `a` runs of `b` numbers. -/
theorem sum_runs {M : Type} [AddCommMonoid M] (f : ℕ → M) (a b : ℕ) :
    ∑ i ∈ Finset.range (a * b), f i = ∑ t ∈ Finset.range a, ∑ j ∈ Finset.range b, f (t * b + j) := by
  induction a with
  | zero => simp
  | succ a ih => rw [Nat.succ_mul, Finset.sum_range_add, ih, Finset.sum_range_succ]

/-- Lane `q` of a tile: its four chunks' values added. -/
def four {M : Type} [AddCommMonoid M] (g : ℕ → M) (q : ℕ) : M := g q + g (128 + q) + g (256 + q) + g (384 + q)

theorem four_eq {M : Type} [AddCommMonoid M] (g : ℕ → M) (q : ℕ) : four g q = ∑ k ∈ Finset.range 4, g (k * 128 + q) := by
  simp [four, Finset.sum_range_succ]

/-- The lanes of sixteen tiles are the 8192 columns. -/
theorem sum_lanes {M : Type} [AddCommMonoid M] (f : ℕ → M) :
    ∑ q : Fin 128, ∑ t ∈ Finset.range 16, four (fun j => f (t * 512 + j)) q.val = ∑ v ∈ Finset.range 8192, f v := by
  rw [show (8192 : ℕ) = 16 * 512 from rfl, sum_runs f 16 512, Finset.sum_comm]
  refine Finset.sum_congr rfl fun t _ => ?_
  rw [show (512 : ℕ) = 4 * 128 from rfl, sum_runs _ 4 128, Finset.sum_comm,
    Fin.sum_univ_eq_sum_range (fun q => four (fun j => f (t * (4 * 128) + j)) q) 128]
  exact Finset.sum_congr rfl fun q _ => four_eq _ _

/-- A sum over a range of which one number alone counts. -/
theorem sum_pick {M : Type} [AddCommMonoid M] (f : ℕ → M) (n v : ℕ) (h : v < n) :
    ∑ i ∈ Finset.range n, (if v = i then f i else 0) = f v := by
  rw [Finset.sum_ite_eq, if_pos (Finset.mem_range.2 h)]

/-! ## Real numbers among the extended reals -/

/-- An extended real that is a real number. -/
def IsReal (a : EReal) : Prop := ∃ r : ℝ, a = r

theorem IsReal.mul {a b : EReal} (ha : IsReal a) (hb : IsReal b) : IsReal (a * b) := by
  obtain ⟨r, rfl⟩ := ha; obtain ⟨s, rfl⟩ := hb
  exact ⟨r * s, (EReal.coe_mul r s).symm⟩
theorem IsReal.add {a b : EReal} (ha : IsReal a) (hb : IsReal b) : IsReal (a + b) := by
  obtain ⟨r, rfl⟩ := ha; obtain ⟨s, rfl⟩ := hb
  exact ⟨r + s, (EReal.coe_add r s).symm⟩
theorem IsReal.max {a b : EReal} (ha : IsReal a) (hb : IsReal b) : IsReal (max a b) := by
  rcases max_choice a b with h | h <;> rw [h]
  · exact ha
  · exact hb
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))
/-- The greatest of finitely many real numbers, one at least, is real, also when the search starts from minus infinity. -/
theorem IsReal.fold_max {ι : Type} (s : Finset ι) (f : ι → EReal) (hs : s.Nonempty) (h : ∀ i, IsReal (f i)) :
    IsReal (s.fold Max.max ⊥ f) := by
  classical
  induction hs using Finset.Nonempty.cons_induction with
  | singleton a => rw [Finset.fold_singleton, max_bot_right]; exact h a
  | cons a s ha _ ih => rw [Finset.fold_cons]; exact (h a).max ih

/-- An extended real of finite absolute value is real. -/
theorem isReal_of_abs {a : EReal} (h : Max.max a (-a) < ⊤) : IsReal a := by
  induction a with
  | bot => simp at h
  | top => simp at h
  | coe r => exact ⟨r, rfl⟩

/-! ## The logarithm of a sum of exponentials -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over real numbers the shift by `m` leaves the logarithm of the sum of exponentials as it is. -/
theorem log_sum_exp {ι : Type} (s : Finset ι) (hs : s.Nonempty) (f : ι → EReal) (hf : ∀ i, IsReal (f i)) {m : EReal} (hm : IsReal m) :
    m + Ideal.log (∑ i ∈ s, Ideal.exp (f i - m)) = Ideal.log (∑ i ∈ s, Ideal.exp (f i)) := by
  choose g hg using hf
  obtain ⟨m, rfl⟩ := hm
  have e1 : ∑ i ∈ s, Ideal.exp (f i - m) = ((∑ i ∈ s, Real.exp (g i - m) : ℝ) : EReal) := by
    rw [coe_sum]
    exact Finset.sum_congr rfl fun i _ => by rw [hg i, ← EReal.coe_sub, Ideal.exp_coe]
  have e2 : ∑ i ∈ s, Ideal.exp (f i) = ((∑ i ∈ s, Real.exp (g i) : ℝ) : EReal) := by
    rw [coe_sum]
    exact Finset.sum_congr rfl fun i _ => by rw [hg i, Ideal.exp_coe]
  have p1 : 0 < ∑ i ∈ s, Real.exp (g i - m) := Finset.sum_pos (fun i _ => Real.exp_pos _) hs
  have p2 : 0 < ∑ i ∈ s, Real.exp (g i) := Finset.sum_pos (fun i _ => Real.exp_pos _) hs
  rw [e1, e2, Ideal.log_coe, Ideal.log_coe, if_neg (not_le.2 p1), if_neg (not_le.2 p2), ← EReal.coe_add]
  congr 1
  have e : ∑ i ∈ s, Real.exp (g i) = Real.exp m * ∑ i ∈ s, Real.exp (g i - m) := by
    rw [Finset.mul_sum]
    exact Finset.sum_congr rfl fun i _ => by rw [← Real.exp_add]; congr 1; ring
  rw [e, Real.log_mul (Real.exp_ne_zero _) p1.ne', Real.log_exp]

end Cert.Proof.Ce

end
-- ==== Proof.Values.lean ====
/-
  The values the body computes, read at the reals, entry by entry: a tile of logits, the lane sums of its exponentials, the lane sums of
  the label's logit, and by induction over the grid points what the three running buffers hold.
-/
module

public import proofs.«01_k».proof.Proof.Steps
public import proofs.«01_k».proof.Proof.Sums
public import Idealize.ShloMosaic.Lib.IdealHost
public import Idealize.ShloMosaic.Lib.MatmulPlain
public import Idealize.ShloMosaic.Lib.Pipeline.Value
public import Idealize.ShloMosaic.Lib.StableHlo.Predicate

@[expose] public section

set_option maxRecDepth 16384

noncomputable section

namespace Cert.Proof.Ce

open Cert.KernelIdeal Cert.KernelIdeal.Gen
open Idealize.ShloMosaic Idealize.ShloMosaic.TcCoe
open Idealize.ShloMosaic.ValueIdx (ix1 ix2 eq_ix1 eq_ix2)
open Idealize.ShloMosaic.VecWindow (window)
open Idealize.ShloMosaic.StableHlo.Predicate (cmpi_eq_iff)
open scoped BigOperators

/-! ## The mathematics: the logits of the whole weight matrix -/

/-- The whole weight matrix's shape. -/
abbrev SWhole : Shape := ⟨2, ![2048, 32768]⟩

/-- Number `v` as a column of the whole weight matrix. -/
def col (v : ℕ) : Fin 32768 := ⟨v % 32768, Nat.mod_lt _ (by decide)⟩
theorem col_val (j : Fin 32768) : col j.val = j := Fin.ext (Nat.mod_eq_of_lt j.isLt)

/-- The logit of row `r` at column `v`. -/
def logit (x : FVec Ideal S1024x2048 .f32) (w : FVec Ideal SWhole .f32) (r : Fin 1024) (v : ℕ) : EReal :=
  ∑ k : Fin 2048, x (ix2 r k) * w (ix2 k (col v))

/-- The first of the 8192 columns device `c` works on. -/
def base (c : Dev nD) : ℕ := 16384 * (c.val % 2) + 8192 * (c.val / 2)

/-! ## One tile -/

/-- A tile of logits, entry by entry. -/
theorem tile_apply (X : FVec Ideal S1024x2048 .f32) (w : FVec Ideal S2048x512 .f32) (r : Fin 1024) (j : Fin 512) :
    k0_pay5 X w (ix2 r j) = ∑ k : Fin 2048, X (ix2 r k) * w (ix2 k j) := by
  unfold k0_pay5
  rw [shapeCast_self, shapeCast_self]
  refine (Ideal.matmul_plain_apply none X w _ r j).trans ?_
  show Ideal.ofBits .f32 0x00000000#32 + _ = _
  rw [Ideal.ofBits_zero_f32, zero_add]

/-- Column chunk `k`, entry by entry. -/
theorem chunk_apply (k : Fin 4) (B : FVec Ideal S1024x512 .f32) (r : Fin 1024) (q : Fin 128) :
    chunk k B (ix2 r q) = B (ix2 r ⟨128 * k.val + q.val, by omega⟩) :=
  congrArg B (Shape.idx_ext₂ (by show 0 + 1 * r.val = r.val; omega) (by show 128 * k.val + 1 * q.val = 128 * k.val + q.val; omega))

/-- The four values a lane gets from a tile, the tile's entries named by their columns. -/
theorem procS_apply (vf : Ideal .f32) (s : FVec Ideal S1024x128 .f32) (B : FVec Ideal S1024x512 .f32) (r : Fin 1024) (g : ℕ → EReal)
    (hB : ∀ j : Fin 512, B (ix2 r j) = g j.val) (q : Fin 128) :
    procS vf s B (ix2 r q) = s (ix2 r q) + four (fun j => Ideal.exp (g j) * vf) q.val := by
  have h : procS vf s B (ix2 r q) = s (ix2 r q) + Ideal.exp (chunk 0 B (ix2 r q)) * vf + Ideal.exp (chunk 1 B (ix2 r q)) * vf
      + Ideal.exp (chunk 2 B (ix2 r q)) * vf + Ideal.exp (chunk 3 B (ix2 r q)) * vf := by
    unfold procS k0_pay50
    rw [shapeCast_self]
    rfl
  rw [h, chunk_apply, chunk_apply, chunk_apply, chunk_apply, hB, hB, hB, hB]
  unfold four
  simp only [add_assoc, Fin.val_zero, Nat.mul_zero, Nat.zero_add]
  rfl

/-- The word at lane `q`, chunk at column `d`, is the label less the tile's first column just when the label is that column. -/
theorem pick_iff (lb : BitVec 32) (b d q : ℕ) (h : b + (d + q) < 2 ^ 32) :
    IntOp.cmpi .eq (BitVec.ofNat 32 q + BitVec.ofNat 32 d) (lb - BitVec.ofNat 32 b) = 1#1 ↔ lb.toNat = b + (d + q) := by
  rw [cmpi_eq_iff, BitVec.eq_sub_iff_add_eq, ← BitVec.toNat_inj]
  simp only [BitVec.toNat_add, BitVec.toNat_ofNat]
  omega

/-- One lane's label logits, the labels given as words less the tile's first column `b`. -/
theorem procL_apply (lc : IVec S1024x1 32) (l : FVec Ideal S1024x128 .f32) (B : FVec Ideal S1024x512 .f32) (r : Fin 1024) (g : ℕ → EReal)
    (hB : ∀ j : Fin 512, B (ix2 r j) = g j.val) (lb : BitVec 32) (b : ℕ) (hb : b + 512 < 2 ^ 32)
    (hlc : lc (ix2 r (0 : Fin 1)) = lb - BitVec.ofNat 32 b) (q : Fin 128) :
    procL lc l B (ix2 r q) = l (ix2 r q) + four (fun j => if lb.toNat = b + j then g j else 0) q.val := by
  have hbr : (broadcastTo S1024x128 lc broadcasts_S1024x1_S1024x128) (ix2 r q) = lb - BitVec.ofNat 32 b :=
    (broadcastTo_apply lc _ (ix2 r q) (ix2 r (0 : Fin 1)) (fun a => by
      match a with
      | ⟨0, _⟩ => rfl
      | ⟨1, _⟩ => rfl)).trans hlc
  have hio : iota .tc S1024x128 32 [1] iota_S1024x128_d1_w32 (ix2 r q) = BitVec.ofNat 32 q.val :=
    iota_single_apply .tc S1024x128 32 1 _ _
  have key : ∀ (d : ℕ) (z : EReal), d + q.val < 512 →
      (Scalar.select (IntOp.cmpi .eq (iota .tc S1024x128 32 [1] iota_S1024x128_d1_w32 (ix2 r q) + BitVec.ofNat 32 d)
        (broadcastTo S1024x128 lc broadcasts_S1024x1_S1024x128 (ix2 r q))) z (Ideal.ofBits .f32 0x00000000#32) : EReal)
        = if lb.toNat = b + (d + q.val) then z else 0 := by
    intro d z hd
    rw [hio, hbr, Ideal.ofBits_zero_f32]
    by_cases h : lb.toNat = b + (d + q.val)
    · rw [if_pos h, (pick_iff lb b d q.val (by omega)).2 h]; rfl
    · rw [if_neg h, ValueIdx.eq_zero_of_ne_one (fun h1 => h ((pick_iff lb b d q.val (by omega)).1 h1))]; rfl
  have h : procL lc l B (ix2 r q) = l (ix2 r q) + (if lb.toNat = b + (0 + q.val) then chunk 0 B (ix2 r q) else 0)
      + (if lb.toNat = b + (128 + q.val) then chunk 1 B (ix2 r q) else 0)
      + (if lb.toNat = b + (256 + q.val) then chunk 2 B (ix2 r q) else 0)
      + (if lb.toNat = b + (384 + q.val) then chunk 3 B (ix2 r q) else 0) := by
    have hq := q.isLt
    rw [← key 0 _ (by omega), ← key 128 _ (by omega), ← key 256 _ (by omega), ← key 384 _ (by omega)]
    unfold procL k0_pay51
    rw [shapeCast_self]
    rfl
  rw [h, chunk_apply, chunk_apply, chunk_apply, chunk_apply, hB, hB, hB, hB]
  unfold four
  simp only [add_assoc, Fin.val_zero, Nat.mul_zero, Nat.zero_add]
  rfl

/-- Of a tile of zeros no label logit is added, whatever the labels. -/
theorem procL_zero (lc : IVec S1024x1 32) (l : FVec Ideal S1024x128 .f32) (B : FVec Ideal S1024x512 .f32) (r : Fin 1024)
    (hB : ∀ j : Fin 512, B (ix2 r j) = 0) (q : Fin 128) : procL lc l B (ix2 r q) = l (ix2 r q) := by
  have sel : ∀ b : BitVec 1, (Scalar.select b (0 : EReal) (Ideal.ofBits .f32 0x00000000#32) : EReal) = 0 := by
    intro b
    rw [Ideal.ofBits_zero_f32]
    unfold Scalar.select
    split <;> rfl
  have c0 : ∀ k : Fin 4, chunk k B (ix2 r q) = 0 := fun k => (chunk_apply k B r q).trans (hB _)
  have h : ∃ b0 b1 b2 b3 : BitVec 1, procL lc l B (ix2 r q) = l (ix2 r q)
      + Scalar.select b0 (chunk 0 B (ix2 r q)) (Ideal.ofBits .f32 0x00000000#32)
      + Scalar.select b1 (chunk 1 B (ix2 r q)) (Ideal.ofBits .f32 0x00000000#32)
      + Scalar.select b2 (chunk 2 B (ix2 r q)) (Ideal.ofBits .f32 0x00000000#32)
      + Scalar.select b3 (chunk 3 B (ix2 r q)) (Ideal.ofBits .f32 0x00000000#32) := by
    unfold procL k0_pay51
    rw [shapeCast_self]
    exact ⟨_, _, _, _, rfl⟩
  obtain ⟨b0, b1, b2, b3, h⟩ := h
  rw [h, c0, c0, c0, c0, sel, sel, sel, sel, add_zero, add_zero, add_zero, add_zero]

/-! ## The scale and the labels' words -/

theorem scale_one : (k0_pay16 : Ideal .f32) = 1 := Ideal.ofBits_one_f32
theorem scale_zero : (k0_pay6 (BitVec.ofNat 32 0) : Ideal .f32) = 0 := Ideal.ofBits_zero_f32
theorem scale_pos (n : ℕ) (h0 : 0 < n) (h : n < 8) : (k0_pay6 (BitVec.ofNat 32 n) : Ideal .f32) = 1 := by
  have hb : Scalar.cmpi .sgt (BitVec.ofNat 32 n) 0#32 = 1#1 := by interval_cases n <;> rfl
  unfold k0_pay6
  rw [hb]
  exact Ideal.ofBits_one_f32

/-- The first column of a device's tile `2 n`, `2 n - 1` and `15`, as the body computes it. -/
theorem word_even (c : Dev nD) (n : Fin 8) :
    Scalar.addi (Scalar.addi (Scalar.muli (wordY c) 16384#32) (wordCol c)) (Scalar.muli (Scalar.muli 2#32 (BitVec.ofNat 32 n.val)) 512#32)
      = BitVec.ofNat 32 (base c + 2 * n.val * 512) := by revert c n; decide +kernel
theorem word_odd (c : Dev nD) (n : Fin 8) (h : 0 < n.val) :
    Scalar.addi (Scalar.addi (Scalar.muli (wordY c) 16384#32) (wordCol c))
        (Scalar.muli (Scalar.subi (Scalar.muli 2#32 (BitVec.ofNat 32 n.val)) 1#32) 512#32)
      = BitVec.ofNat 32 (base c + (2 * n.val - 1) * 512) := by revert c n; decide +kernel
theorem word_last (c : Dev nD) :
    Scalar.addi (Scalar.addi (Scalar.muli (wordY c) 16384#32) (wordCol c)) 7680#32 = BitVec.ofNat 32 (base c + 15 * 512) := by
  revert c; decide +kernel

theorem label_even (c : Dev nD) (n : ℕ) (hn : n < 8) (Lb : IVec S1024x1 32) (r : Fin 1024) :
    k0_pay17 (F := Ideal) (BitVec.ofNat 32 n) (wordY c) (wordCol c) Lb (ix2 r (0 : Fin 1))
      = Lb (ix2 r (0 : Fin 1)) - BitVec.ofNat 32 (base c + 2 * n * 512) := by
  rw [← word_even c ⟨n, hn⟩]
  unfold k0_pay17
  rw [shapeCast_self]
  rfl
theorem label_odd (c : Dev nD) (n : ℕ) (h0 : 0 < n) (hn : n < 8) (Lb : IVec S1024x1 32) (r : Fin 1024) :
    k0_pay7 (F := Ideal) (BitVec.ofNat 32 n) (wordY c) (wordCol c) Lb (ix2 r (0 : Fin 1))
      = Lb (ix2 r (0 : Fin 1)) - BitVec.ofNat 32 (base c + (2 * n - 1) * 512) := by
  have hb : Scalar.cmpi .sgt (BitVec.ofNat 32 n) 0#32 = 1#1 := by interval_cases n <;> rfl
  rw [← word_odd c ⟨n, hn⟩ h0]
  unfold k0_pay7
  rw [shapeCast_self, hb]
  rfl
theorem label_last (c : Dev nD) (Lb : IVec S1024x1 32) (r : Fin 1024) :
    k0_pay40 (F := Ideal) (wordY c) (wordCol c) Lb (ix2 r (0 : Fin 1))
      = Lb (ix2 r (0 : Fin 1)) - BitVec.ofNat 32 (base c + 15 * 512) := by
  rw [← word_last c]
  unfold k0_pay40
  rw [shapeCast_self]
  rfl

theorem base_le (c : Dev nD) : base c ≤ 24576 := by revert c; decide

/-! ## What the running buffers hold before a grid point -/

section Running
variable (x : FVec Ideal S1024x2048 .f32) (w : FVec Ideal SWhole .f32) (lab : Fin 1024 → BitVec 32) (c : Dev nD)

/-- Device `c`'s logit at its own column `v`; its exponential; and the logit again where it is the label's, zero elsewhere. -/
def own (r : Fin 1024) (v : ℕ) : EReal := logit x w r (base c + v)
def ownExp (r : Fin 1024) (v : ℕ) : EReal := Ideal.exp (own x w c r v)
def ownPick (r : Fin 1024) (v : ℕ) : EReal := if (lab r).toNat = base c + v then own x w c r v else 0

/-- Before grid point `n`: the lane sums over the first `2 n - 1` tiles, and the tile still to be summed. -/
structure Sum (n : ℕ) (u : St Ideal) : Prop where
  s : ∀ r q, u.s (ix2 r q) = ∑ t ∈ Finset.range (2 * n - 1), four (fun j => ownExp x w c r (t * 512 + j)) q.val
  l : ∀ r q, u.l (ix2 r q) = ∑ t ∈ Finset.range (2 * n - 1), four (fun j => ownPick x w lab c r (t * 512 + j)) q.val
  b : ∀ r j, u.b (ix2 r j) = if n = 0 then 0 else own x w c r ((2 * n - 1) * 512 + j.val)

variable {x w lab c}

/-- The two sums take one more tile, number `t`. -/
theorem add_tile {t : ℕ} (ht : t < 16) {s l : FVec Ideal S1024x128 .f32} {B : FVec Ideal S1024x512 .f32} {lc : IVec S1024x1 32}
    {vf : Ideal .f32} (hvf : vf = 1) (hlc : ∀ r, lc (ix2 r (0 : Fin 1)) = lab r - BitVec.ofNat 32 (base c + t * 512))
    (hs : ∀ r q, s (ix2 r q) = ∑ t ∈ Finset.range t, four (fun j => ownExp x w c r (t * 512 + j)) q.val)
    (hl : ∀ r q, l (ix2 r q) = ∑ t ∈ Finset.range t, four (fun j => ownPick x w lab c r (t * 512 + j)) q.val)
    (hB : ∀ r j, B (ix2 r j) = own x w c r (t * 512 + j.val)) :
    (∀ r q, procS vf s B (ix2 r q) = ∑ t ∈ Finset.range (t + 1), four (fun j => ownExp x w c r (t * 512 + j)) q.val)
    ∧ (∀ r q, procL lc l B (ix2 r q) = ∑ t ∈ Finset.range (t + 1), four (fun j => ownPick x w lab c r (t * 512 + j)) q.val) := by
  have hb := base_le c
  refine ⟨fun r q => ?_, fun r q => ?_⟩
  · rw [procS_apply vf s B r (fun j => own x w c r (t * 512 + j)) (hB r), hs, Finset.sum_range_succ, hvf]
    simp only [mul_one]
    rfl
  · rw [procL_apply lc l B r (fun j => own x w c r (t * 512 + j)) (hB r) (lab r) (base c + t * 512) (by omega) (hlc r), hl,
      Finset.sum_range_succ]
    simp only [ownPick, add_assoc]

/-- One tile of the weights is one tile of the device's own columns. -/
theorem tile_own {Wt : FVec Ideal S2048x16384 .f32}
    (hW : ∀ k (j : Fin 16384), Wt (ix2 k j) = w (ix2 k (col (16384 * (c.val % 2) + j.val)))) (n : ℕ) (hn : n < 8) (r : Fin 1024) (j : Fin 512) :
    k0_pay5 x (leftHalf (wcont c n Wt)) (ix2 r j) = own x w c r (2 * n * 512 + j.val)
    ∧ k0_pay15 x (rightHalf (wcont c n Wt)) (ix2 r j) = own x w c r ((2 * n + 1) * 512 + j.val) := by
  have hc : c.val / 2 < 2 := by have := c.isLt; have : nD = 4 := rfl; omega
  have hl : ∀ k, leftHalf (wcont c n Wt) (ix2 k j) = w (ix2 k (col (base c + (2 * n * 512 + j.val)))) := fun k =>
    (congrArg Wt (Shape.idx_ext₂ (y := ix2 k (⟨8192 * (c.val / 2) + 1024 * n + j.val, by omega⟩ : Fin 16384))
      (by show 0 + 1 * (0 + 1 * k.val) = k.val; omega)
      (by show 8192 * (c.val / 2) + 1024 * (n % 8) + 1 * (0 + 1 * j.val) = 8192 * (c.val / 2) + 1024 * n + j.val; omega))).trans
      ((hW k _).trans (by unfold base; congr 3; dsimp only; omega))
  have hr : ∀ k, rightHalf (wcont c n Wt) (ix2 k j) = w (ix2 k (col (base c + ((2 * n + 1) * 512 + j.val)))) := fun k =>
    (congrArg Wt (Shape.idx_ext₂ (y := ix2 k (⟨8192 * (c.val / 2) + 1024 * n + (512 + j.val), by omega⟩ : Fin 16384))
      (by show 0 + 1 * (0 + 1 * k.val) = k.val; omega)
      (by show 8192 * (c.val / 2) + 1024 * (n % 8) + 1 * (512 + 1 * j.val) = 8192 * (c.val / 2) + 1024 * n + (512 + j.val); omega))).trans
      ((hW k _).trans (by unfold base; congr 3; dsimp only; omega))
  refine ⟨(tile_apply x _ r j).trans ?_, (tile_apply x _ r j).trans ?_⟩
  · unfold own logit
    exact Finset.sum_congr rfl fun k _ => by rw [hl]
  · unfold own logit
    exact Finset.sum_congr rfl fun k _ => by rw [hr]

/-- A grid point takes two more tiles. -/
theorem step_sum {Wt : FVec Ideal S2048x16384 .f32} {Lb : IVec S1024x1 32}
    (hW : ∀ k (j : Fin 16384), Wt (ix2 k j) = w (ix2 k (col (16384 * (c.val % 2) + j.val))))
    (hL : ∀ r, Lb (ix2 r (0 : Fin 1)) = lab r) (n : ℕ) (hn : n < 8) {u : St Ideal} (h : Sum x w lab c n u) :
    Sum x w lab c (n + 1) (step c n x Lb (wcont c n Wt) u) := by
  have first : (∀ r q, procS (k0_pay6 (BitVec.ofNat 32 n)) u.s u.b (ix2 r q)
        = ∑ t ∈ Finset.range (2 * n), four (fun j => ownExp x w c r (t * 512 + j)) q.val)
      ∧ (∀ r q, procL (k0_pay7 (F := Ideal) (BitVec.ofNat 32 n) (wordY c) (wordCol c) Lb) u.l u.b (ix2 r q)
        = ∑ t ∈ Finset.range (2 * n), four (fun j => ownPick x w lab c r (t * 512 + j)) q.val) := by
    by_cases h0 : n = 0
    · subst h0
      have hb : ∀ r j, u.b (ix2 r j) = 0 := fun r j => (h.b r j).trans (if_pos rfl)
      refine ⟨fun r q => ?_, fun r q => ?_⟩
      · rw [procS_apply _ u.s u.b r (fun _ => 0) (hb r), h.s, scale_zero]
        simp [four]
      · rw [procL_zero _ u.l u.b r (hb r), h.l]
    · have e : 2 * n = 2 * n - 1 + 1 := by omega
      rw [e]
      exact add_tile (by omega) (scale_pos n (by omega) hn) (fun r => (label_odd c n (by omega) hn Lb r).trans (by rw [hL])) h.s h.l
        (fun r j => (h.b r j).trans (if_neg h0))
  have second := add_tile (t := 2 * n) (by omega) scale_one (fun r => (label_even c n hn Lb r).trans (by rw [hL])) first.1 first.2
    (fun r j => (tile_own hW n hn r j).1)
  exact ⟨second.1, second.2, fun r j => ((tile_own hW n hn r j).2).trans (by rw [if_neg (by omega)]; rfl)⟩

/-- Before grid point `n` the running buffers hold the sums over the tiles so far. -/
theorem stAt_sum {Wt : FVec Ideal S2048x16384 .f32} {Lb : IVec S1024x1 32}
    (hW : ∀ k (j : Fin 16384), Wt (ix2 k j) = w (ix2 k (col (16384 * (c.val % 2) + j.val))))
    (hL : ∀ r, Lb (ix2 r (0 : Fin 1)) = lab r) : ∀ n, n ≤ 8 → Sum x w lab c n (stAt c x Lb Wt n)
  | 0, _ => by
    refine ⟨fun r q => ?_, fun r q => ?_, fun r j => ?_⟩
    · show k0_pay2 (ix2 r q) = 0
      unfold k0_pay2
      rw [shapeCast_self]
      exact Ideal.ofBits_zero_f32
    · show k0_pay3 (ix2 r q) = 0
      unfold k0_pay3
      rw [shapeCast_self]
      exact Ideal.ofBits_zero_f32
    · rw [if_pos rfl]
      show k0_pay49 k0_pay4 (ix2 r j) = 0
      unfold k0_pay49
      rw [shapeCast_self]
      exact Ideal.ofBits_zero_f32
  | n + 1, hn => step_sum hW hL n (by omega) (stAt_sum hW hL n (by omega))

/-- A row's sum over the lanes, as the body takes it. -/
theorem lanes_apply (v : FVec Ideal S1024x128 .f32) (r : Fin 1024) :
    k0_pay45 v (ix2 r (0 : Fin 1)) = ∑ q : Fin 128, v (ix2 r q) := by
  unfold k0_pay45
  rw [shapeCast_self]
  refine (shapeCast_apply _ shapeCasts_S1024_S1024x1 (ix2 r (0 : Fin 1)) (ix1 r) (by rfl)).trans ?_
  refine (Ideal.multiReduction_add_single v 0x00000000#32 reduces_S1024x128_S1024 (.inl rfl) rfl (ix1 r)).trans ?_
  exact Finset.sum_congr rfl fun q _ => congrArg v (Shape.idx_ext₂ rfl rfl)

/-- Device `c`'s two sums: over its 8192 columns, of the exponentials and of the label's logit. -/
theorem fin_sum {Wt : FVec Ideal S2048x16384 .f32} {Lb : IVec S1024x1 32}
    (hW : ∀ k (j : Fin 16384), Wt (ix2 k j) = w (ix2 k (col (16384 * (c.val % 2) + j.val))))
    (hL : ∀ r, Lb (ix2 r (0 : Fin 1)) = lab r) (r : Fin 1024) :
    fin1 c (stAt c x Lb Wt 8) (ix2 r (0 : Fin 1)) = ∑ v ∈ Finset.range 8192, ownExp x w c r v
    ∧ fin2 c Lb (stAt c x Lb Wt 8) (ix2 r (0 : Fin 1)) = ∑ v ∈ Finset.range 8192, ownPick x w lab c r v := by
  have h := stAt_sum (x := x) hW hL 8 le_rfl
  have last := add_tile (t := 15) (by omega) scale_one (fun r => (label_last c Lb r).trans (by rw [hL])) h.s h.l
    (fun r j => (h.b r j).trans (if_neg (by omega)))
  refine ⟨(lanes_apply _ r).trans ?_, (lanes_apply _ r).trans ?_⟩
  · rw [← sum_lanes]
    exact Finset.sum_congr rfl fun q _ => last.1 r q
  · rw [← sum_lanes]
    exact Finset.sum_congr rfl fun q _ => last.2 r q

end Running

end Cert.Proof.Ce

end
-- ==== Proof.Total.lean ====
/-
  What the idealized kernel leaves in its result, row by row: the two exchanges add up the four devices' sums, each over its own quarter of the
  columns, so every device ends with the same row sums over all the columns.
-/
module

public import proofs.«01_k».proof.Proof.Values
public import proofs.«01_k».proof.Proof.Launch

@[expose] public section

set_option maxRecDepth 16384

noncomputable section

namespace Cert.Proof.Ce

open Cert.KernelIdeal Cert.KernelIdeal.Gen
open Idealize.ShloMosaic Idealize.ShloMosaic.TcCoe
open Idealize.ShloMosaic.ValueIdx (ix1 ix2 eq_ix1 eq_ix2)
open scoped BigOperators

/-- The negative log-likelihood of row `r` with label `v`, without any shift. -/
def nll (x : FVec Ideal S1024x2048 .f32) (w : FVec Ideal SWhole .f32) (r : Fin 1024) (v : ℕ) : EReal :=
  Ideal.log (∑ j ∈ Finset.range 32768, Ideal.exp (logit x w r j)) - logit x w r v

/-- The four devices' quarters, added as the two exchanges add them, are the whole sum. -/
theorem sum_devices {M : Type} [AddCommMonoid M] (f : ℕ → M) (q : Dev nD → M) (hq : ∀ d, q d = ∑ v ∈ Finset.range 8192, f (base d + v))
    (c : Dev nD) : (q c + q (ny c)) + (q (nx c) + q (ny (nx c))) = ∑ v ∈ Finset.range 32768, f v := by
  have e : ∑ v ∈ Finset.range 32768, f v = q 0 + q 2 + q 1 + q 3 := by
    have e4 : ∀ g : ℕ → M, ∑ t ∈ Finset.range 4, g t = g 0 + g 1 + g 2 + g 3 := fun g => by simp [Finset.sum_range_succ]
    rw [show (32768 : ℕ) = 4 * 8192 from rfl, sum_runs f 4 8192, e4, hq, hq, hq, hq]
    rfl
  have hc : c = 0 ∨ c = 1 ∨ c = 2 ∨ c = 3 := by revert c; decide
  rw [e]
  rcases hc with rfl | rfl | rfl | rfl
  · show (q 0 + q 1) + (q 2 + q 3) = _
    abel
  · show (q 1 + q 0) + (q 3 + q 2) = _
    abel
  · show (q 2 + q 3) + (q 0 + q 1) = _
    abel
  · show (q 3 + q 2) + (q 1 + q 0) = _
    abel

/-- The result's rows, from the devices' sums. -/
theorem result_apply (p : Dev nD → Two Ideal) (c : Dev nD) (r : Fin 1024) :
    result p c (ix2 r (0 : Fin 1))
      = Ideal.log (((p c).a (ix2 r (0 : Fin 1)) + (p (ny c)).a (ix2 r (0 : Fin 1)))
          + ((p (nx c)).a (ix2 r (0 : Fin 1)) + (p (ny (nx c))).a (ix2 r (0 : Fin 1))))
        - (((p c).b (ix2 r (0 : Fin 1)) + (p (ny c)).b (ix2 r (0 : Fin 1)))
          + ((p (nx c)).b (ix2 r (0 : Fin 1)) + (p (ny (nx c))).b (ix2 r (0 : Fin 1)))) := by
  have h47 : ∀ a b : FVec Ideal S1024x1 .f32, k0_pay47 a b = addf a b := fun a b => by unfold k0_pay47; exact shapeCast_self _ _
  have h48 : ∀ a b : FVec Ideal S1024x1 .f32, k0_pay48 a b = addf a b := fun a b => by unfold k0_pay48; exact shapeCast_self _ _
  unfold result plusY k0_pay1
  simp only [h47, h48]
  rfl

section Out

variable (m : (ℓ : Loc nD τ sig) → Buf (Elt Ideal) ℓ)

/-- The labels as the body reads them: the argument's, one per row. -/
theorem Lb_apply (c : Dev nD) (r : Fin 1024) :
    (Lb m c : IVec S1024x1 32) (ix2 r (0 : Fin 1)) = (m ((c : Thread nD τ).loc main_arg2) : IVec S1024 32) (ix1 r) := by
  have h : (Lb m c : IVec S1024x1 32) = shapeCast S1024x1 (m ((c : Thread nD τ).loc main_arg2) : IVec S1024 32) shapeCasts_S1024_S1024x1 := by
    unfold Lb
    exact StableHlo.reshape_result main_arg2 main_v1 rfl shapeCasts_S1024_S1024x1 ⟨by decide, rfl⟩ ⟨by decide, rfl⟩ (Vm m c)
  rw [h]
  exact shapeCast_apply _ _ _ _ (by rfl)

/-- The result vector is the result column. -/
theorem out_apply (c : Dev nD) (r : Fin 1024) : out m c (ix1 r) = result (sums m) c (ix2 r (0 : Fin 1)) := by
  have h : out m c = shapeCast S1024 (V2 m c (Proc.devRef .tc main_v2) : FVec Ideal S1024x1 .f32) shapeCasts_S1024x1_S1024 := by
    unfold out
    exact StableHlo.reshape_result main_v2 main_v3 rfl shapeCasts_S1024x1_S1024 ⟨by decide, rfl⟩ ⟨by decide, rfl⟩ (V2 m c)
  rw [h, V2_out]
  exact shapeCast_apply _ _ _ _ (by rfl)

/-- The kernel's result: when every device holds the same `x` and labels, and the half of the whole weight matrix its second coordinate
names, row `r` ends at the negative log-likelihood of its label, on every device. -/
theorem out_nll {x : FVec Ideal S1024x2048 .f32} {w : FVec Ideal SWhole .f32} {lab : Fin 1024 → BitVec 32}
    (hX : ∀ c : Dev nD, (m ((c : Thread nD τ).loc main_arg0) : FVec Ideal S1024x2048 .f32) = x)
    (hW : ∀ (c : Dev nD) k (j : Fin 16384),
      (m ((c : Thread nD τ).loc main_arg1) : FVec Ideal S2048x16384 .f32) (ix2 k j) = w (ix2 k (col (16384 * (c.val % 2) + j.val))))
    (hL : ∀ (c : Dev nD) r, (m ((c : Thread nD τ).loc main_arg2) : IVec S1024 32) (ix1 r) = lab r)
    (hr : ∀ r, (lab r).toNat < 32768) (c : Dev nD) (r : Fin 1024) : out m c (ix1 r) = nll x w r (lab r).toNat := by
  have hs : ∀ d, (sums m d).a (ix2 r (0 : Fin 1)) = ∑ v ∈ Finset.range 8192, ownExp x w d r v
      ∧ (sums m d).b (ix2 r (0 : Fin 1)) = ∑ v ∈ Finset.range 8192, ownPick x w lab d r v := by
    intro d
    have hx : (X m d : FVec Ideal S1024x2048 .f32) = x := (V_main_arg0 m d).trans (hX d)
    have hw : (Wt m d : FVec Ideal S2048x16384 .f32) = m ((d : Thread nD τ).loc main_arg1) := V_main_arg1 m d
    unfold sums stm
    rw [hx]
    exact fin_sum (fun k j => (congrFun hw _).trans (hW d k j)) (fun r => (Lb_apply m d r).trans (hL d r)) r
  rw [out_apply, result_apply,
    sum_devices (fun v => Ideal.exp (logit x w r v)) (fun d => (sums m d).a (ix2 r (0 : Fin 1))) (fun d => (hs d).1) c,
    sum_devices (fun v => if (lab r).toNat = v then logit x w r v else 0) (fun d => (sums m d).b (ix2 r (0 : Fin 1)))
      (fun d => (hs d).2) c,
    sum_pick _ _ _ (hr r)]
  rfl

end Out

end Cert.Proof.Ce

end
-- ==== Proof.RefValue.lean ====
/-
  The idealized reference's result, row by row: over real inputs and labels in range it is the negative log-likelihood of the label, the shift by
  the row's greatest logit gone.
-/
module

public import proofs.«01_k».proof.Proof.Total
public import proofs.«01_k».proof.Proof.Gen.ReferenceIdeal
public import Idealize.ShloMosaic.Lib.KernelVsHost

@[expose] public section

set_option maxRecDepth 16384

noncomputable section

namespace Cert.Proof.Ref

open Cert.ReferenceIdeal Cert.ReferenceIdeal.Facts₀
open Idealize.ShloMosaic
open Idealize.ShloMosaic.ValueIdx (ix1 ix2 eq_ix1 eq_ix2)
open Idealize.ShloMosaic.StableHlo.Predicate (slt_iff_toNat toInt_eq_toNat_of_lt)
open Cert.Proof.Ce (col col_val logit nll IsReal log_sum_exp)
open scoped BigOperators

/-! ## The reference's term, in steps -/

section Terms

variable (x : FVec Ideal S1024x2048 .f32) (w : FVec Ideal S2048x32768 .f32) (lab : IVec S1024 32)

/-- The logits. -/
def logits : FVec Ideal S1024x32768 .f32 := Host.dotGeneral dot_S1024x2048_S2048x32768_S1024x32768_1_0_0_1_n_n none x w
/-- Each row's greatest logit. -/
def greatest : FVec Ideal S1024 .f32 :=
  Host.reduce FloatOps.maximumf (logits x w) (constant S_ .f32 0xFF800000#32) reducesTo_S1024x32768_S1024_d1 h_S_
/-- Each row's sum of the exponentials of the logits less the greatest. -/
def expSum : FVec Ideal S1024 .f32 :=
  Host.reduceAdd (Host.exp (subf (logits x w) (broadcastInDim S1024x32768 ![0, 1] bcast_S1024x1_S1024x32768_0_1
    (broadcastInDim S1024x1 ![0] bcast_S1024_S1024x1_0 (greatest x w))))) (constant S_ .f32 0x00000000#32) reducesTo_S1024x32768_S1024_d1 h_S_
/-- Row numbers `v` of an axis of `n` positions, a negative one counted from the end. -/
def wrapped (v : IVec S1024 32) (n : BitVec 32) : IVec S1024 32 :=
  select (cmpi .slt v (broadcastInDim S1024 ![] bcast_S_S1024 (constantI S_ 32 0#32)))
    (addi v (broadcastInDim S1024 ![] bcast_S_S1024 (constantI S_ 32 n))) v
/-- The pairs (row, label) at which the logits are read. -/
def places : IVec S1024x2 32 :=
  concatenate S1024x2 1 [⟨S1024x1, broadcastInDim S1024x1 ![0] bcast_S1024_S1024x1_0 (wrapped (iotaInDim S1024 32 0) 1024#32)⟩,
    ⟨S1024x1, broadcastInDim S1024x1 ![0] bcast_S1024_S1024x1_0 (wrapped lab 32768#32)⟩] concatenates_S1024x1_S1024x1_S1024x2_d1
/-- The reference's result. -/
def refOut : FVec Ideal S1024 .f32 :=
  subf (shapeCast S1024 (addf (broadcastInDim S1024x1 ![0] bcast_S1024_S1024x1_0 (greatest x w))
    (Host.log (broadcastInDim S1024x1 ![0] bcast_S1024_S1024x1_0 (expSum x w)))) shapeCasts_S1024x1_S1024)
    (Host.gather gather_S1024x32768_S1024x2_S1024_n_01_n_n_01_1_11 (logits x w) (places lab))

/-! ## Each step at an entry -/

theorem logits_apply (r : Fin 1024) (j : Fin 32768) : logits x w (ix2 r j) = logit x w r j.val := by
  have h : logits x w (ix2 r j) = 0 + ∑ k : Fin 2048, x (ix2 r k) * w (ix2 k j) :=
    Ideal.matmul_plain_apply none x w (fun _ => (0 : EReal)) r j
  rw [h, zero_add]
  unfold logit
  rw [col_val]

theorem reduces_rows : S1024x32768.Reduces [1] S1024 := by decide

theorem greatest_apply (r : Fin 1024) :
    greatest x w (ix1 r) = (Finset.univ : Finset (Fin 32768)).fold max ⊥ (fun j => logit x w r j.val) := by
  have hb : (FloatOps.ofBits .f32 0xFF800000#32 : Ideal .f32) = (⊥ : EReal) := by
    show Ideal.ofBits .f32 0xFF800000#32 = ⊥
    simp [Ideal.ofBits, Ideal.ieee]
  unfold greatest
  rw [hostReduce_maximumf_eq_multiReduction (logits x w) 0xFF800000#32 _ _ reduces_rows (.inl rfl) rfl]
  refine (Ideal.multiReduction_maximumf_single (logits x w) 0xFF800000#32 reduces_rows (.inl rfl) rfl (ix1 r)).trans ?_
  rw [hb]
  refine congrArg (fun f => Finset.univ.fold max ⊥ f) (funext fun j => ?_)
  have e : reduces_rows.lift (ix1 r) j = ix2 r (j : Fin 32768) := Shape.idx_ext₂ rfl rfl
  exact (congrArg (logits x w) e).trans (logits_apply x w r j)

/-- A row's value spread along the row. -/
theorem column_apply {α : Type} (v : S1024.Idx → α) (r : Fin 1024) :
    broadcastInDim S1024x1 ![0] bcast_S1024_S1024x1_0 v (ix2 r (0 : Fin 1)) = v (ix1 r) :=
  broadcastInDim_apply _ _ v _ (ix1 r) (fun a => by obtain rfl : a = 0 := Subsingleton.elim _ _; rfl)

theorem expSum_apply (r : Fin 1024) :
    expSum x w (ix1 r) = ∑ j : Fin 32768, Ideal.exp (logit x w r j.val - greatest x w (ix1 r)) := by
  unfold expSum
  rw [ValueIdx.hostReduceAdd_apply, Ideal.hostReduceAdd_single _ reduces_rows]
  show Ideal.ofBits .f32 0x00000000#32 + _ = _
  rw [Ideal.ofBits_zero_f32, zero_add]
  refine Finset.sum_congr rfl fun j _ => ?_
  have e : reduces_rows.lift (ix1 r) j = ix2 r (j : Fin 32768) := Shape.idx_ext₂ rfl rfl
  rw [e]
  have hb : broadcastInDim S1024x32768 ![0, 1] bcast_S1024x1_S1024x32768_0_1
      (broadcastInDim S1024x1 ![0] bcast_S1024_S1024x1_0 (greatest x w)) (ix2 r (j : Fin 32768)) = greatest x w (ix1 r) :=
    (broadcastInDim_apply _ _ _ _ (ix2 r (0 : Fin 1)) (fun a => by fin_cases a <;> rfl)).trans (column_apply _ r)
  exact congrArg Ideal.exp (congrArg₂ (fun a b : EReal => a - b) (logits_apply x w r j) hb)

/-- A number already in range stays. -/
theorem wrapped_apply (v : IVec S1024 32) (n : BitVec 32) (r : Fin 1024) (h : (v (ix1 r)).toNat < 2 ^ 31) : wrapped v n (ix1 r) = v (ix1 r) := by
  have hc : cmpi .slt v (broadcastInDim S1024 ![] bcast_S_S1024 (constantI S_ 32 0#32)) (ix1 r) = 0#1 := by
    apply ValueIdx.eq_zero_of_ne_one
    intro h1
    have := (slt_iff_toNat h (b := 0#32) (by decide)).1 h1
    exact absurd this (Nat.not_lt_zero _)
  unfold wrapped
  rw [ValueIdx.select_apply, hc]
  rfl

theorem places_row (r : Fin 1024) : places lab (ix2 r (0 : Fin 2)) = BitVec.ofNat 32 r.val := by
  unfold places
  rw [concatenate_pair_apply_left (s₁ := S1024x1) (s₂ := S1024x1) 1 _ _ _ (ix2 r (0 : Fin 2)) rfl (ix2 r (0 : Fin 1)) (fun b => by fin_cases b <;> rfl), column_apply,
    wrapped_apply]
  · rfl
  · show (BitVec.ofNat 32 r.val).toNat < _
    have := r.isLt
    rw [BitVec.toNat_ofNat]
    omega

theorem places_label (r : Fin 1024) (h : (lab (ix1 r)).toNat < 2 ^ 31) : places lab (ix2 r (1 : Fin 2)) = lab (ix1 r) := by
  unfold places
  rw [concatenate_pair_apply_right (s₁ := S1024x1) (s₂ := S1024x1) 1 _ _ _ (ix2 r (1 : Fin 2)) rfl rfl (ix2 r (0 : Fin 1))
    (fun b hb => match b, hb with
      | ⟨0, _⟩, _ => rfl
      | ⟨1, _⟩, hb => absurd rfl hb) rfl, column_apply, wrapped_apply _ _ _ h]

/-- The start of the entry read for row `r`, on either axis: the pair's number there, read signed and kept within the axis. -/
theorem start_apply (idx : IVec S1024x2 32) (r : Fin 1024) (a : Fin 2) :
    gather_S1024x32768_S1024x2_S1024_n_01_n_n_01_1_11.start (ix1 r) idx a
      = min (idx (ix2 r a)).toInt.toNat (S1024x32768.size a - 1) := by
  have ha : a ∈ gather_S1024x32768_S1024x2_S1024_n_01_n_n_01_1_11.startIndexMap := by
    revert a; decide
  unfold GatherDims.start
  rw [dif_pos ha]
  have hs : gather_S1024x32768_S1024x2_S1024_n_01_n_n_01_1_11.siIdx (ix1 r)
      ⟨List.idxOf a gather_S1024x32768_S1024x2_S1024_n_01_n_n_01_1_11.startIndexMap, List.idxOf_lt_length_iff.2 ha⟩ = ix2 r a := by
    refine Shape.idx_ext₂ rfl ?_
    fin_cases a <;> rfl
  rw [hs]
  fin_cases a <;> rfl

/-- The logit read for row `r` is the label's. -/
theorem picked_apply (r : Fin 1024) (h : (lab (ix1 r)).toNat < 32768) :
    Host.gather gather_S1024x32768_S1024x2_S1024_n_01_n_n_01_1_11 (logits x w) (places lab) (ix1 r) = logit x w r (lab (ix1 r)).toNat := by
  have hr := r.isLt
  refine Eq.trans ?_ (logits_apply x w r ⟨(lab (ix1 r)).toNat, h⟩)
  unfold Host.gather
  refine congrArg (logits x w) (funext fun a => Fin.ext ?_)
  show gather_S1024x32768_S1024x2_S1024_n_01_n_n_01_1_11.start (ix1 r) (places lab) a
    + gather_S1024x32768_S1024x2_S1024_n_01_n_n_01_1_11.batchCoord (ix1 r) a
    + gather_S1024x32768_S1024x2_S1024_n_01_n_n_01_1_11.offCoord (ix1 r) a = _
  rw [GatherDims.batchCoord_eq_zero _ _ _ List.not_mem_nil,
    GatherDims.offCoord_eq_zero _ _ _ (fun hk => ((GatherDims.mem_sKept _ _).1 hk).1 (by revert a; decide)), start_apply]
  fin_cases a
  · show min (places lab (ix2 r (0 : Fin 2))).toInt.toNat (1024 - 1) + 0 + 0 = r.val
    rw [places_row, toInt_eq_toNat_of_lt (by rw [BitVec.toNat_ofNat]; omega), BitVec.toNat_ofNat, Int.toNat_natCast]
    omega
  · show min (places lab (ix2 r (1 : Fin 2))).toInt.toNat (32768 - 1) + 0 + 0 = (lab (ix1 r)).toNat
    rw [places_label lab r (by omega), toInt_eq_toNat_of_lt (by omega), Int.toNat_natCast]
    omega

/-- The last lines of the reference at a row, whatever the two columns and the entry subtracted. -/
theorem last_apply (g e p : FVec Ideal S1024 .f32) (r : Fin 1024) :
    subf (shapeCast S1024 (addf (broadcastInDim S1024x1 ![0] bcast_S1024_S1024x1_0 g)
      (Host.log (broadcastInDim S1024x1 ![0] bcast_S1024_S1024x1_0 e))) shapeCasts_S1024x1_S1024) p (ix1 r)
      = (g (ix1 r) + Ideal.log (e (ix1 r))) - p (ix1 r) := by
  refine congrArg (fun a : EReal => a - p (ix1 r)) ?_
  refine (shapeCast_apply _ _ (ix1 r) (ix2 r (0 : Fin 1)) (by rfl)).trans ?_
  exact congrArg₂ (fun a b : EReal => a + Ideal.log b) (column_apply g r) (column_apply e r)

/-- The reference's result: the negative log-likelihood of each row's label, when the logits are real numbers and the label is in range. -/
theorem refOut_nll (hx : ∀ i, IsReal (x i)) (hw : ∀ i, IsReal (w i)) (r : Fin 1024) (h : (lab (ix1 r)).toNat < 32768) :
    refOut x w lab (ix1 r) = nll x w r (lab (ix1 r)).toNat := by
  have hl : ∀ j, IsReal (logit x w r j) := fun j => IsReal.sum _ _ fun k _ => (hx _).mul (hw _)
  have hm : IsReal (greatest x w (ix1 r)) := by
    rw [greatest_apply]
    exact IsReal.fold_max _ _ ⟨0, Finset.mem_univ _⟩ fun j => hl _
  unfold refOut
  rw [last_apply, picked_apply x w lab r h, expSum_apply, log_sum_exp _ ⟨0, Finset.mem_univ _⟩ (fun j : Fin 32768 => logit x w r j.val) (fun j => hl _) hm]
  unfold nll
  rw [Fin.sum_univ_eq_sum_range (fun j => Ideal.exp (logit x w r j)) 32768]

end Terms

end Cert.Proof.Ref

end
-- ==== Proof.Algebraic.lean ====
/-
  The idealized kernel against the idealized reference: what the precondition says of the arguments, how the devices' blocks lie in the whole
  weight matrix, and the two results' agreement.
-/
module

public import proofs.«01_k».proof.Defs
public import proofs.«01_k».proof.Proof.Run
public import proofs.«01_k».proof.Proof.RefValue
public import proofs.«01_k».proof.Proof.Gen.ReferenceIdeal.Run
public import Idealize.ShloMosaic.Lib.ReduceAll
public import Idealize.ShloMosaic.Lib.Layout

@[expose] public section

set_option maxRecDepth 16384

noncomputable section

namespace Cert.Proof

open Idealize.ShloMosaic Idealize.ShloMosaic.TcCoe Idealize.SL.Sem
open Idealize.ShloMosaic.ValueIdx (ix1 ix2 eq_ix1 eq_ix2)
open Idealize.ShloMosaic.StableHlo.Predicate (ofBool_eq_one_iff)
open Cert.Proof.Ce (col nll IsReal isReal_of_abs)

/-! ## The precondition -/

/-- The precondition's side conditions at a device's shapes. -/
theorem preKernel : Cert.Pre_finite_in_range_KernelIdeal.Facts where
  bcast_S_S1024x2048 := by decide
  reducesTo_S1024x2048_S_d0_1 := by decide
  h_S_ := by decide
  bcast_S_S2048x16384 := by decide
  reducesTo_S2048x16384_S_d0_1 := by decide
  bcast_S_S1024 := by decide
  reducesTo_S1024_S_d0 := by decide
/-- The precondition's side conditions at the whole arrays' shapes. -/
theorem preReference : Cert.Pre_finite_in_range_ReferenceIdeal.Facts where
  bcast_S_S1024x2048 := by decide
  reducesTo_S1024x2048_S_d0_1 := by decide
  h_S_ := by decide
  bcast_S_S2048x32768 := by decide
  reducesTo_S2048x32768_S_d0_1 := by decide
  bcast_S_S1024 := by decide
  reducesTo_S1024_S_d0 := by decide

/-- An array every entry of which compares below infinity in absolute value holds real numbers. -/
theorem isReal_of_reduce {s u : Shape} {axes : List (Fin s.rank)} (x : FVec Ideal s .f32) (b : FVec Ideal s .f32) (init : u.Idx → BitVec 1)
    (h : s.ReducesTo axes ⟨0, ![]⟩) (hu : 0 < u.numel) (j : (⟨0, ![]⟩ : Shape).Idx) (hb : ∀ i, b i = Ideal.ofBits .f32 0x7F800000#32)
    (e : Host.reduce IntOp.andi (cmpf .olt (Host.absf x) b) init h hu j = 1#1) (i : s.Idx) : IsReal (x i) := by
  have : Subsingleton (⟨0, ![]⟩ : Shape).Idx := ⟨fun a b => funext fun k => k.elim0⟩
  have h1 : Ideal.cmp .olt (max (x i) (-(x i))) (b i) = 1#1 := Host.reduce_andi_all _ init h hu j e i
  have hinf : Ideal.ofBits .f32 0x7F800000#32 = ⊤ := by simp [Ideal.ofBits, Ideal.ieee]
  rw [hb, hinf] at h1
  exact isReal_of_abs (of_decide_eq_true ((ofBool_eq_one_iff _).1 h1))

/-- A word not negative and below 32768, read signed, is below 32768. -/
theorem below_of_signed {a : BitVec 32} (h0 : IntOp.cmpi .sge a 0#32 = 1#1) (h1 : IntOp.cmpi .slt a 32768#32 = 1#1) : a.toNat < 32768 := by
  have s0 : (0 : ℤ) ≤ a.toInt := by
    simpa [BitVec.sle] using (ofBool_eq_one_iff _).1 h0
  have s1 : a.toInt < 32768 := by
    simpa [BitVec.slt] using (ofBool_eq_one_iff _).1 h1
  rw [BitVec.toInt_eq_toNat_cond] at s0 s1
  have := a.isLt
  split at s0 <;> omega

/-- What the precondition says of one device's arguments. -/
theorem pre_decode [Cert.Pre_finite_in_range_KernelIdeal.Facts] (x : FVec Ideal ⟨2, ![1024, 2048]⟩ .f32) (w : FVec Ideal ⟨2, ![2048, 16384]⟩ .f32)
    (lab : IVec ⟨1, ![1024]⟩ 32) (h : Cert.Pre_finite_in_range_KernelIdeal.fn (F := Ideal) x w lab = fun _ => 1#1) :
    (∀ i, IsReal (x i)) ∧ (∀ i, IsReal (w i)) ∧ ∀ i, (lab i).toNat < 32768 := by
  have : Subsingleton (⟨0, ![]⟩ : Shape).Idx := ⟨fun a b => funext fun k => k.elim0⟩
  have e := congrFun h (fun k => k.elim0)
  obtain ⟨e123, e4⟩ := IntOp.andi_eq_one.1 e
  obtain ⟨e12, e3⟩ := IntOp.andi_eq_one.1 e123
  obtain ⟨e1, e2⟩ := IntOp.andi_eq_one.1 e12
  refine ⟨isReal_of_reduce x _ _ _ _ _ (fun i => ?_) e1, isReal_of_reduce w _ _ _ _ _ (fun i => ?_) e2, fun i => ?_⟩
  · exact ValueIdx.broadcastInDim_scalar_apply _ _ i
  · exact ValueIdx.broadcastInDim_scalar_apply _ _ i
  · exact below_of_signed (Host.reduce_andi_all _ _ _ _ _ e3 i) (Host.reduce_andi_all _ _ _ _ _ e4 i)

/-! ## The devices' blocks of the weight matrix -/

/-- Device `c`'s block is the half its second mesh coordinate names. -/
theorem block_apply (w : FVec Ideal ⟨2, ![2048, 32768]⟩ .f32) (c : Dev Cert.KernelIdeal.nD) (k : Fin 2048) (j : Fin 16384) :
    (Layout.blockN ⟨2, ![2048, 16384]⟩ ⟨2, ![2048, 32768]⟩ (Layout.meshBlock [2, 2] ![[], [1]] c) w :
        FVec Ideal ⟨2, ![2048, 16384]⟩ .f32) (ix2 k j)
      = w (ix2 k (col (16384 * (c.val % 2) + j.val))) := by
  have hc : Layout.meshLin [2, 2] c.val [1] = c.val % 2 := by revert c; decide
  rw [Layout.blockN_apply]
  refine congrArg w (Shape.idx_ext₂ ?_ ?_)
  · rw [Layout.TilesN.idx_val]
    show 0 * 2048 + k.val = k.val
    omega
  · rw [Layout.TilesN.idx_val]
    show Layout.meshLin [2, 2] c.val [1] * 16384 + j.val = (16384 * (c.val % 2) + j.val) % 32768
    rw [hc]
    have := j.isLt
    omega

/-- Every entry of the whole weight matrix lies in a block of one of the first two devices. -/
theorem whole_of_blocks {P : EReal → Prop} (w : FVec Ideal ⟨2, ![2048, 32768]⟩ .f32)
    (h : ∀ (c : Dev Cert.KernelIdeal.nD) k (j : Fin 16384), P (w (ix2 k (col (16384 * (c.val % 2) + j.val))))) (i) : P (w i) := by
  have h1 := ValueIdx.idx2_lt1 i
  obtain ⟨k, v, rfl⟩ : ∃ (k : Fin 2048) (v : Fin 32768), i = ix2 k v := ⟨i 0, i 1, eq_ix2 i⟩
  have hv := v.isLt
  have hd : v.val / 16384 < 2 := by omega
  have e : col (16384 * (v.val / 16384 % 2) + v.val % 16384) = v := Fin.ext (by
    show (16384 * (v.val / 16384 % 2) + v.val % 16384) % 32768 = v.val
    omega)
  have := h ⟨v.val / 16384, lt_of_lt_of_le hd (by decide)⟩ k ⟨v.val % 16384, Nat.mod_lt _ (by decide)⟩
  rwa [show col (16384 * ((⟨v.val / 16384, lt_of_lt_of_le hd (by decide)⟩ : Dev Cert.KernelIdeal.nD).val % 2)
    + (⟨v.val % 16384, Nat.mod_lt _ (by decide)⟩ : Fin 16384).val) = v from e] at this

/-! ## The two results -/

/-- The reference leaves `refOut` of its arguments. -/
theorem reference_run (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) :
    θ_run (Cert.ReferenceIdeal.defs (F := Ideal)) (onTc (τ := Cert.ReferenceIdeal.τ) (Cert.ReferenceIdeal.main (F := Ideal))) ⟨m, fun _ => 0, ρ⟩
      (fun r => r.2.mem ((c.tc : Thread Cert.ReferenceIdeal.nD Cert.ReferenceIdeal.τ).loc Cert.ReferenceIdeal.main_v26)
          = Ref.refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) := by
  refine (θ_run Cert.ReferenceIdeal.defs _ _).mono (fun r h => ?_) (Cert.ReferenceIdeal.Value.run (F := Ideal) m ρ)
  have hc := h c
  unfold Ref.refOut Ref.places Ref.wrapped Ref.expSum Ref.greatest Ref.logits
  exact hc

/-- Under the precondition, from arguments laid out as the mesh says, every device of the kernel ends with the reference's result. -/
theorem algebraic : Cert.algebraic_KernelIdeal_ReferenceIdeal_pre_finite_in_range_KernelIdeal (hKernelIdeal := Cert.KernelIdeal.Gen.facts)
    (hReferenceIdeal := Cert.ReferenceIdeal.Gen.facts) (hPre_finite_in_range_KernelIdeal := preKernel) := by
  intro m g m' g' hp ha
  have dec := fun c => @pre_decode preKernel _ _ _ (hp c)
  refine ⟨_, (θ_run Cert.KernelIdeal.defs _ _).mono (fun r h c => ⟨(h.1 c).2.2.2.trans ?_, (h.1 c).1, (h.1 c).2.1, (h.1 c).2.2.1⟩)
    (Ce.run_main m g), reference_run m' g' 0⟩
  have hW : ∀ (d : Dev Cert.KernelIdeal.nD) k (j : Fin 16384),
      (m ((d : Thread Cert.KernelIdeal.nD Cert.KernelIdeal.τ).loc Cert.KernelIdeal.main_arg1) : FVec Ideal ⟨2, ![2048, 16384]⟩ .f32) (ix2 k j)
        = (m' (((0 : Dev Cert.ReferenceIdeal.nD).tc : Thread Cert.ReferenceIdeal.nD Cert.ReferenceIdeal.τ).loc Cert.ReferenceIdeal.main_arg1) :
            FVec Ideal ⟨2, ![2048, 32768]⟩ .f32) (ix2 k (col (16384 * (d.val % 2) + j.val))) :=
    fun d k j => (congrFun (ha d).2.1 _).trans (block_apply _ d k j)
  have hL : ∀ (d : Dev Cert.KernelIdeal.nD) r,
      (m ((d : Thread Cert.KernelIdeal.nD Cert.KernelIdeal.τ).loc Cert.KernelIdeal.main_arg2) : IVec ⟨1, ![1024]⟩ 32) (ix1 r)
        = (m' (((0 : Dev Cert.ReferenceIdeal.nD).tc : Thread Cert.ReferenceIdeal.nD Cert.ReferenceIdeal.τ).loc Cert.ReferenceIdeal.main_arg2) :
            IVec ⟨1, ![1024]⟩ 32) (ix1 r) :=
    fun d r => congrFun (ha d).2.2 _
  funext i
  obtain ⟨r, rfl⟩ : ∃ r : Fin 1024, i = ix1 r := ⟨i 0, eq_ix1 i⟩
  refine (Ce.out_nll m (fun d => (ha d).1) hW hL (fun r => ?_) c r).trans (Ref.refOut_nll _ _ _ (fun i => ?_) ?_ r ?_).symm
  · exact (hL c r) ▸ (dec c).2.2 (ix1 r)
  · exact congrFun (ha c).1 i ▸ (dec c).1 i
  · exact whole_of_blocks _ fun d k j => (hW d k j) ▸ (dec d).2.1 (ix2 k j)
  · exact (hL c r) ▸ (dec c).2.2 (ix1 r)

end Cert.Proof

end
-- ==== Proof.lean ====
/- The claims: the frames of the three programs, the idealization, and the kernel's agreement with the reference over the reals. -/
module

public import proofs.«01_k».proof.Defs
public import proofs.«01_k».proof.Proof.Frames
public import proofs.«01_k».proof.Proof.Algebraic
public import proofs.«01_k».proof.Proof.Gen.ReferenceIdeal.Run

@[expose] public section

noncomputable section

namespace Cert.Proof

/-- Everything the certificate claims. -/
theorem claim : Cert.Claim :=
  ⟨Cert.Kernel.Gen.facts, Cert.KernelIdeal.Gen.facts, Cert.ReferenceIdeal.Gen.facts, preKernel, preReference,
    frame_kernel, frame_ideal, fun m g _ => frame_ideal m g trivial, frame_reference, fun m g _ => frame_reference m g trivial,
    trivial, algebraic⟩

end Cert.Proof

end
